-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 512, 512]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![2, 512, 512]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v80) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x256 : Shape := ⟨2, ![512, 256]⟩
abbrev S256x512 : Shape := ⟨2, ![256, 512]⟩
abbrev S2x4x128x512 : Shape := ⟨4, ![2, 4, 128, 512]⟩
abbrev S6 : Shape := ⟨1, ![6]⟩
abbrev S2x4 : Shape := ⟨2, ![2, 4]⟩
abbrev S_ : Shape := ⟨0, ![]⟩
abbrev S1x128x512 : Shape := ⟨3, ![1, 128, 512]⟩
abbrev S128x512 : Shape := ⟨2, ![128, 512]⟩
abbrev S1 : Shape := ⟨1, ![1]⟩
abbrev S1x1 : Shape := ⟨2, ![1, 1]⟩
abbrev S1x1x128x512 : Shape := ⟨4, ![1, 1, 128, 512]⟩
abbrev S512x512 : Shape := ⟨2, ![512, 512]⟩
abbrev S512x64 : Shape := ⟨2, ![512, 64]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S256x512, .f32⟩
  | .hbm, ⟨5, _⟩ => ⟨S2x128x512, .f32⟩
  | .local _ .vmem, ⟨0, _⟩ => ⟨S2x128x512, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S256x512, .f32⟩
  | .local _ .vmem, ⟨5, _⟩ => ⟨S2x128x512, .f32⟩
  | .local _ .vmem, ⟨6, _⟩ => ⟨S2x128x512, .bf16⟩
  | .local _ .vmem, ⟨7, _⟩ => ⟨S2x4x128x512, .bf16⟩
  | .local _ .vmem, ⟨8, _⟩ => ⟨S2x4x128x512, .bf16⟩
  | .local _ .vmem, ⟨9, _⟩ => ⟨S2x4x128x512, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) : Fin 2 → Nat :=
  let c0_i32_27 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![0, v2.toNat]
def k0_off2 (d0 : Dev nD) : Fin 4 → Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_31 : BitVec 32 := 0#32
  let c0_i32_32 : BitVec 32 := 0#32
  ![0, v2.toNat, 0, 0]
def k0_dev4 (d0 : Dev nD) : Nat :=
  let c0_i32_30 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_23 : BitVec 32 := 1#32
  let v28 : BitVec 32 := Scalar.addi v2 c1_i32_23
  let c4_i32_24 : BitVec 32 := 4#32
  let v29 : BitVec 32 := Scalar.remsi v28 c4_i32_24
  let c1_i32_29 : BitVec 32 := 1#32
  let v30 : BitVec 32 := Scalar.muli v29 c1_i32_29
  let v31 : BitVec 32 := Scalar.addi c0_i32_30 v30
  v31.toNat
def k0_dev5 (d0 : Dev nD) : Nat :=
  let c0_i32_42 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_35 : BitVec 32 := 2#32
  let v40 : BitVec 32 := Scalar.addi v2 c2_i32_35
  let c4_i32_36 : BitVec 32 := 4#32
  let v41 : BitVec 32 := Scalar.remsi v40 c4_i32_36
  let c1_i32_41 : BitVec 32 := 1#32
  let v42 : BitVec 32 := Scalar.muli v41 c1_i32_41
  let v43 : BitVec 32 := Scalar.addi c0_i32_42 v42
  v43.toNat
def k0_dev6 (d0 : Dev nD) : Nat :=
  let c0_i32_54 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_47 : BitVec 32 := 3#32
  let v52 : BitVec 32 := Scalar.addi v2 c3_i32_47
  let c4_i32_48 : BitVec 32 := 4#32
  let v53 : BitVec 32 := Scalar.remsi v52 c4_i32_48
  let c1_i32_53 : BitVec 32 := 1#32
  let v54 : BitVec 32 := Scalar.muli v53 c1_i32_53
  let v55 : BitVec 32 := Scalar.addi c0_i32_54 v54
  v55.toNat
def k0_off3 (d0 : Dev nD) : Fin 2 → Nat :=
  let c1_i32_63 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![1, v2.toNat]
def k0_off4 (d0 : Dev nD) : Fin 4 → Nat :=
  let c1_i32_62 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_67 : BitVec 32 := 0#32
  let c0_i32_68 : BitVec 32 := 0#32
  ![1, v2.toNat, 0, 0]
def k0_dev7 (d0 : Dev nD) : Nat :=
  let c0_i32_66 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_59 : BitVec 32 := 1#32
  let v64 : BitVec 32 := Scalar.addi v2 c1_i32_59
  let c4_i32_60 : BitVec 32 := 4#32
  let v65 : BitVec 32 := Scalar.remsi v64 c4_i32_60
  let c1_i32_65 : BitVec 32 := 1#32
  let v66 : BitVec 32 := Scalar.muli v65 c1_i32_65
  let v67 : BitVec 32 := Scalar.addi c0_i32_66 v66
  v67.toNat
def k0_dev8 (d0 : Dev nD) : Nat :=
  let c0_i32_78 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_71 : BitVec 32 := 2#32
  let v76 : BitVec 32 := Scalar.addi v2 c2_i32_71
  let c4_i32_72 : BitVec 32 := 4#32
  let v77 : BitVec 32 := Scalar.remsi v76 c4_i32_72
  let c1_i32_77 : BitVec 32 := 1#32
  let v78 : BitVec 32 := Scalar.muli v77 c1_i32_77
  let v79 : BitVec 32 := Scalar.addi c0_i32_78 v78
  v79.toNat
def k0_dev9 (d0 : Dev nD) : Nat :=
  let c0_i32_89 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_83 : BitVec 32 := 3#32
  let v88 : BitVec 32 := Scalar.addi v2 c3_i32_83
  let c4_i32_84 : BitVec 32 := 4#32
  let v89 : BitVec 32 := Scalar.remsi v88 c4_i32_84
  let c1_i32_88 : BitVec 32 := 1#32
  let v90 : BitVec 32 := Scalar.muli v89 c1_i32_88
  let v91 : BitVec 32 := Scalar.addi c0_i32_89 v90
  v91.toNat
def k0_off5 (d0 : Dev nD) (c1_i32_130 : BitVec 32) : Fin 2 → Nat :=
  let c0_i32_134 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v188 : BitVec 32 := Scalar.addi v2 c1_i32_130
  let c4_i32_131 : BitVec 32 := 4#32
  let v189 : BitVec 32 := Scalar.remsi v188 c4_i32_131
  ![0, v189.toNat]
def k0_off6 (d0 : Dev nD) (c1_i32_130 : BitVec 32) : Fin 4 → Nat :=
  let c0_i32_133 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v188 : BitVec 32 := Scalar.addi v2 c1_i32_130
  let c4_i32_131 : BitVec 32 := 4#32
  let v189 : BitVec 32 := Scalar.remsi v188 c4_i32_131
  let c0_i32_138 : BitVec 32 := 0#32
  let c0_i32_139 : BitVec 32 := 0#32
  ![0, v189.toNat, 0, 0]
def k0_dev10 (d0 : Dev nD) : Nat :=
  let c0_i32_232 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_225 : BitVec 32 := 1#32
  let v343 : BitVec 32 := Scalar.addi v2 c1_i32_225
  let c4_i32_226 : BitVec 32 := 4#32
  let v344 : BitVec 32 := Scalar.remsi v343 c4_i32_226
  let c1_i32_231 : BitVec 32 := 1#32
  let v345 : BitVec 32 := Scalar.muli v344 c1_i32_231
  let v346 : BitVec 32 := Scalar.addi c0_i32_232 v345
  v346.toNat
def k0_dev11 (d0 : Dev nD) : Nat :=
  let c0_i32_244 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_237 : BitVec 32 := 2#32
  let v355 : BitVec 32 := Scalar.addi v2 c2_i32_237
  let c4_i32_238 : BitVec 32 := 4#32
  let v356 : BitVec 32 := Scalar.remsi v355 c4_i32_238
  let c1_i32_243 : BitVec 32 := 1#32
  let v357 : BitVec 32 := Scalar.muli v356 c1_i32_243
  let v358 : BitVec 32 := Scalar.addi c0_i32_244 v357
  v358.toNat
def k0_dev12 (d0 : Dev nD) : Nat :=
  let c0_i32_256 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_249 : BitVec 32 := 3#32
  let v367 : BitVec 32 := Scalar.addi v2 c3_i32_249
  let c4_i32_250 : BitVec 32 := 4#32
  let v368 : BitVec 32 := Scalar.remsi v367 c4_i32_250
  let c1_i32_255 : BitVec 32 := 1#32
  let v369 : BitVec 32 := Scalar.muli v368 c1_i32_255
  let v370 : BitVec 32 := Scalar.addi c0_i32_256 v369
  v370.toNat
def k0_off7 (d0 : Dev nD) (c1_i32_269 : BitVec 32) : Fin 2 → Nat :=
  let c1_i32_273 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v391 : BitVec 32 := Scalar.addi v2 c1_i32_269
  let c4_i32_270 : BitVec 32 := 4#32
  let v392 : BitVec 32 := Scalar.remsi v391 c4_i32_270
  ![1, v392.toNat]
def k0_off8 (d0 : Dev nD) (c1_i32_269 : BitVec 32) : Fin 4 → Nat :=
  let c1_i32_272 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v391 : BitVec 32 := Scalar.addi v2 c1_i32_269
  let c4_i32_270 : BitVec 32 := 4#32
  let v392 : BitVec 32 := Scalar.remsi v391 c4_i32_270
  let c0_i32_277 : BitVec 32 := 0#32
  let c0_i32_278 : BitVec 32 := 0#32
  ![1, v392.toNat, 0, 0]
def k0_dev13 (d0 : Dev nD) : Nat :=
  let c0_i32_374 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_367 : BitVec 32 := 1#32
  let v546 : BitVec 32 := Scalar.addi v2 c1_i32_367
  let c4_i32_368 : BitVec 32 := 4#32
  let v547 : BitVec 32 := Scalar.remsi v546 c4_i32_368
  let c1_i32_373 : BitVec 32 := 1#32
  let v548 : BitVec 32 := Scalar.muli v547 c1_i32_373
  let v549 : BitVec 32 := Scalar.addi c0_i32_374 v548
  v549.toNat
def k0_dev14 (d0 : Dev nD) : Nat :=
  let c0_i32_386 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_379 : BitVec 32 := 2#32
  let v558 : BitVec 32 := Scalar.addi v2 c2_i32_379
  let c4_i32_380 : BitVec 32 := 4#32
  let v559 : BitVec 32 := Scalar.remsi v558 c4_i32_380
  let c1_i32_385 : BitVec 32 := 1#32
  let v560 : BitVec 32 := Scalar.muli v559 c1_i32_385
  let v561 : BitVec 32 := Scalar.addi c0_i32_386 v560
  v561.toNat
def k0_dev15 (d0 : Dev nD) : Nat :=
  let c0_i32_398 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_391 : BitVec 32 := 3#32
  let v570 : BitVec 32 := Scalar.addi v2 c3_i32_391
  let c4_i32_392 : BitVec 32 := 4#32
  let v571 : BitVec 32 := Scalar.remsi v570 c4_i32_392
  let c1_i32_397 : BitVec 32 := 1#32
  let v572 : BitVec 32 := Scalar.muli v571 c1_i32_397
  let v573 : BitVec 32 := Scalar.addi c0_i32_398 v572
  v573.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x512x512 : Shape := ⟨3, ![2, 512, 512]⟩
abbrev S512x1024 : Shape := ⟨2, ![512, 1024]⟩
abbrev S1024x512 : Shape := ⟨2, ![1024, 512]⟩
abbrev S32 : Shape := ⟨1, ![32]⟩
abbrev S_ : Shape := ⟨0, ![]⟩
abbrev S512 : Shape := ⟨1, ![512]⟩
abbrev S512x1 : Shape := ⟨2, ![512, 1]⟩
abbrev S1x32 : Shape := ⟨2, ![1, 32]⟩
abbrev S512x32 : Shape := ⟨2, ![512, 32]⟩
abbrev S512x32x2 : Shape := ⟨3, ![512, 32, 2]⟩
abbrev S512x64 : Shape := ⟨2, ![512, 64]⟩
abbrev S2x512x1024 : Shape := ⟨3, ![2, 512, 1024]⟩
abbrev S2x512x16x64 : Shape := ⟨4, ![2, 512, 16, 64]⟩
abbrev S2x512x16x32x2 : Shape := ⟨5, ![2, 512, 16, 32, 2]⟩
abbrev S2x512x16x32x1 : Shape := ⟨5, ![2, 512, 16, 32, 1]⟩
abbrev S2x512x16x32 : Shape := ⟨4, ![2, 512, 16, 32]⟩
abbrev S1x512x1x64 : Shape := ⟨4, ![1, 512, 1, 64]⟩
abbrev S2x16x512x512 : Shape := ⟨4, ![2, 16, 512, 512]⟩
abbrev S2x16x512 : Shape := ⟨3, ![2, 16, 512]⟩
abbrev S2x16x512x1 : Shape := ⟨4, ![2, 16, 512, 1]⟩
abbrev S2x16x64x512 : Shape := ⟨4, ![2, 16, 64, 512]⟩

abbrev nBuf : Space → Nat
  | .hbm => 94
  | .vmem => 0
  | .smem => 0
  | _ => 0

abbrev bufTy : (tb : Table) → Fin (tcTables nBuf tb) → BufTy
  | .hbm, ⟨0, _⟩ => ⟨S2x512x512, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S1024x512, .f32⟩
  | .hbm, ⟨5, _⟩ => ⟨S32, .i32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S512, .i32⟩
  | .hbm, ⟨23, _⟩ => ⟨S512x1, .i32⟩
  | .hbm, ⟨24, _⟩ => ⟨S1x32, .f32⟩
  | .hbm, ⟨25, _⟩ => ⟨S512x1, .f32⟩
  | .hbm, ⟨26, _⟩ => ⟨S512x32, .f32⟩
  | .hbm, ⟨27, _⟩ => ⟨S512x32, .f32⟩
  | .hbm, ⟨28, _⟩ => ⟨S512x32, .f32⟩
  | .hbm, ⟨29, _⟩ => ⟨S512x32, .f32⟩
  | .hbm, ⟨30, _⟩ => ⟨S512x32x2, .f32⟩
  | .hbm, ⟨31, _⟩ => ⟨S512x64, .f32⟩
  | .hbm, ⟨32, _⟩ => ⟨S512x32, .f32⟩
  | .hbm, ⟨33, _⟩ => ⟨S512x32x2, .f32⟩
  | .hbm, ⟨34, _⟩ => ⟨S512x64, .f32⟩
  | .hbm, ⟨35, _⟩ => ⟨S2x512x1024, .f32⟩
  | .hbm, ⟨36, _⟩ => ⟨S2x512x16x64, .f32⟩
  | .hbm, ⟨37, _⟩ => ⟨S2x512x16x32x2, .f32⟩
  | .hbm, ⟨38, _⟩ => ⟨S2x512x16x32x1, .f32⟩
  | .hbm, ⟨39, _⟩ => ⟨S2x512x16x32, .f32⟩
  | .hbm, ⟨40, _⟩ => ⟨S2x512x16x32, .f32⟩
  | .hbm, ⟨41, _⟩ => ⟨S2x512x16x32x1, .f32⟩
  | .hbm, ⟨42, _⟩ => ⟨S2x512x16x32, .f32⟩
  | .hbm, ⟨43, _⟩ => ⟨S2x512x16x32x1, .f32⟩
  | .hbm, ⟨44, _⟩ => ⟨S2x512x16x32x1, .f32⟩
  | .hbm, ⟨45, _⟩ => ⟨S2x512x16x32x2, .f32⟩
  | .hbm, ⟨46, _⟩ => ⟨S2x512x16x64, .f32⟩
  | .hbm, ⟨47, _⟩ => ⟨S1x512x1x64, .f32⟩
  | .hbm, ⟨48, _⟩ => ⟨S2x512x16x64, .f32⟩
  | .hbm, ⟨49, _⟩ => ⟨S2x512x16x64, .f32⟩
  | .hbm, ⟨50, _⟩ => ⟨S1x512x1x64, .f32⟩
  | .hbm, ⟨51, _⟩ => ⟨S2x512x16x64, .f32⟩
  | .hbm, ⟨52, _⟩ => ⟨S2x512x16x64, .f32⟩
  | .hbm, ⟨53, _⟩ => ⟨S2x512x16x64, .f32⟩
  | .hbm, ⟨54, _⟩ => ⟨S2x512x1024, .f32⟩
  | .hbm, ⟨55, _⟩ => ⟨S2x512x16x64, .f32⟩
  | .hbm, ⟨56, _⟩ => ⟨S2x512x16x32x2, .f32⟩
  | .hbm, ⟨57, _⟩ => ⟨S2x512x16x32x1, .f32⟩
  | .hbm, ⟨58, _⟩ => ⟨S2x512x16x32, .f32⟩
  | .hbm, ⟨59, _⟩ => ⟨S2x512x16x32, .f32⟩
  | .hbm, ⟨60, _⟩ => ⟨S2x512x16x32x1, .f32⟩
  | .hbm, ⟨61, _⟩ => ⟨S2x512x16x32, .f32⟩
  | .hbm, ⟨62, _⟩ => ⟨S2x512x16x32x1, .f32⟩
  | .hbm, ⟨63, _⟩ => ⟨S2x512x16x32x1, .f32⟩
  | .hbm, ⟨64, _⟩ => ⟨S2x512x16x32x2, .f32⟩
  | .hbm, ⟨65, _⟩ => ⟨S2x512x16x64, .f32⟩
  | .hbm, ⟨66, _⟩ => ⟨S1x512x1x64, .f32⟩
  | .hbm, ⟨67, _⟩ => ⟨S2x512x16x64, .f32⟩
  | .hbm, ⟨68, _⟩ => ⟨S2x512x16x64, .f32⟩
  | .hbm, ⟨69, _⟩ => ⟨S1x512x1x64, .f32⟩
  | .hbm, ⟨70, _⟩ => ⟨S2x512x16x64, .f32⟩
  | .hbm, ⟨71, _⟩ => ⟨S2x512x16x64, .f32⟩
  | .hbm, ⟨72, _⟩ => ⟨S2x512x16x64, .f32⟩
  | .hbm, ⟨73, _⟩ => ⟨S2x512x1024, .f32⟩
  | .hbm, ⟨74, _⟩ => ⟨S2x512x16x64, .f32⟩
  | .hbm, ⟨75, _⟩ => ⟨S2x16x512x512, .f32⟩
  | .hbm, ⟨76, _⟩ => ⟨S_, .f32⟩
  | .hbm, ⟨77, _⟩ => ⟨S2x16x512x512, .f32⟩
  | .hbm, ⟨78, _⟩ => ⟨S2x16x512x512, .f32⟩
  | .hbm, ⟨79, _⟩ => ⟨S_, .f32⟩
  | .hbm, ⟨80, _⟩ => ⟨S2x16x512, .f32⟩
  | .hbm, ⟨81, _⟩ => ⟨S2x16x512x1, .f32⟩
  | .hbm, ⟨82, _⟩ => ⟨S2x16x512x512, .f32⟩
  | .hbm, ⟨83, _⟩ => ⟨S2x16x512x512, .f32⟩
  | .hbm, ⟨84, _⟩ => ⟨S2x16x512x512, .f32⟩
  | .hbm, ⟨85, _⟩ => ⟨S_, .f32⟩
  | .hbm, ⟨86, _⟩ => ⟨S2x16x512, .f32⟩
  | .hbm, ⟨87, _⟩ => ⟨S2x16x512x1, .f32⟩
  | .hbm, ⟨88, _⟩ => ⟨S2x16x512x512, .f32⟩
  | .hbm, ⟨89, _⟩ => ⟨S2x16x512x512, .f32⟩
  | .hbm, ⟨90, _⟩ => ⟨S2x16x64x512, .f32⟩
  | .hbm, ⟨91, _⟩ => ⟨S2x512x16x64, .f32⟩
  | .hbm, ⟨92, _⟩ => ⟨S2x512x1024, .f32⟩
  | .hbm, ⟨93, _⟩ => ⟨S2x512x512, .f32⟩
  | _, _ => ⟨S2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_cst_3 : Ref sig .tc := ⟨.hbm, 76, rfl⟩
abbrev main_v66 : Ref sig .tc := ⟨.hbm, 77, rfl⟩
abbrev main_v67 : Ref sig .tc := ⟨.hbm, 78, rfl⟩
abbrev main_cst_4 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_cst_5 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩

abbrev nD : Nat := 1
abbrev τ : Topo := Topo.v7x

variable {F : FTy → Type} [FloatOps F]
-- ==== Proof.KernelIdeal.Blocks.lean ====
/-
  The buffers of the kernel as blocks, and what each block holds.

  Every buffer that a transfer touches is cut into slots of one row block each: `xsend` into two (one per batch), the gathered rows, the partial products and
  the received partial products into eight (batch, row block). A slot is a slice of the buffer; this module names the slots, shows that they are disjoint and
  fill the buffer, says how a whole buffer is given as its slots and back, and names what the slots hold in terms of the kernel's arguments.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Memref
public import Idealize.ShloMosaic.Lib.MemrefSat
public import Idealize.ShloMosaic.Lib.Tactic

@[expose] public section

noncomputable section

namespace Cert.KernelIdeal.Prot

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The protocol's part: a duty is named by the device that pays it. -/
abbrev UB : Type := URounds (GSem nD τ sig) (Dev nD)
/-- The pipeline library's part beside it. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The buffers -/

abbrev xM : Memref sig .tc .vmem S2x128x512 .f32 := Memref.whole cc0_stg0_0
abbrev oM : Memref sig .tc .vmem S2x128x512 .f32 := Memref.whole cc0_stg5_0
abbrev sM : Memref sig .tc .vmem S2x128x512 .bf16 := Memref.whole cc0_scratch0
abbrev gM : Memref sig .tc .vmem S2x4x128x512 .bf16 := Memref.whole cc0_scratch1
abbrev pM : Memref sig .tc .vmem S2x4x128x512 .bf16 := Memref.whole cc0_scratch2
abbrev rM : Memref sig .tc .vmem S2x4x128x512 .bf16 := Memref.whole cc0_scratch3

/-! ## The slots -/

/-- The rectangle of the `b`th batch of a `2×128×512` buffer. -/
def r3 (b : Fin 2) : Rect S2x128x512 :=
  Rect.unit (s := S2x128x512) ![b.val, 0, 0] S1x128x512.size (by revert b; decide)
/-- The rectangle of batch `t.1` and row block `t.2` of a `2×4×128×512` buffer. -/
def r4 (t : Fin 2 × Fin 4) : Rect S2x4x128x512 :=
  Rect.unit (s := S2x4x128x512) ![t.1.val, t.2.val, 0, 0] S1x1x128x512.size (by revert t; decide)

/-- A batch's slot takes every element: its steps are 1. -/
theorem r3_stride (b : Fin 2) (a) : (r3 b).stride a = 1 := rfl
/-- The same of the slots of a four-block buffer. -/
theorem r4_stride (t : Fin 2 × Fin 4) (a) : (r4 t).stride a = 1 := rfl

/-- A buffer's slots. -/
abbrev slot3 {e : EltTy} (M : Memref sig .tc .vmem S2x128x512 e) (b : Fin 2) : Memref sig .tc .vmem S1x128x512 e :=
  M.slice (r3 b) (r3_stride b)
abbrev slot4 {e : EltTy} (M : Memref sig .tc .vmem S2x4x128x512 e) (b : Fin 2) (s : Fin 4) : Memref sig .tc .vmem S1x1x128x512 e :=
  M.slice (r4 (b, s)) (r4_stride (b, s))

/-- The index of batch `b`, row `i`, lane `j`; the index inside a slot of row `i`, lane `j`. -/
def ix3 (b : Fin 2) (i : Fin 128) (j : Fin 512) : S2x128x512.Idx := fun a => match a with | ⟨0, _⟩ => b | ⟨1, _⟩ => i | ⟨2, _⟩ => j
def in3 (i : Fin 128) (j : Fin 512) : S1x128x512.Idx := fun a => match a with | ⟨0, _⟩ => (0 : Fin 1) | ⟨1, _⟩ => i | ⟨2, _⟩ => j
def ix4 (b : Fin 2) (s : Fin 4) (i : Fin 128) (j : Fin 512) : S2x4x128x512.Idx :=
  fun a => match a with | ⟨0, _⟩ => b | ⟨1, _⟩ => s | ⟨2, _⟩ => i | ⟨3, _⟩ => j
def in4 (i : Fin 128) (j : Fin 512) : S1x1x128x512.Idx :=
  fun a => match a with | ⟨0, _⟩ => (0 : Fin 1) | ⟨1, _⟩ => (0 : Fin 1) | ⟨2, _⟩ => i | ⟨3, _⟩ => j

/-- An index of a slot is made of its last two coordinates. -/
theorem in3_eta (j : S1x128x512.Idx) : in3 (j 1) (j 2) = j := by
  have hj : (j 0).val < 1 := (j 0).isLt
  funext a
  match a with
  | ⟨0, _⟩ => exact Fin.ext (by show 0 = (j 0).val; omega)
  | ⟨1, _⟩ => rfl
  | ⟨2, _⟩ => rfl
/-- The same of a slot of a four-block buffer. -/
theorem in4_eta (j : S1x1x128x512.Idx) : in4 (j 2) (j 3) = j := by
  have hj : (j 0).val < 1 := (j 0).isLt
  have hj1 : (j 1).val < 1 := (j 1).isLt
  funext a
  match a with
  | ⟨0, _⟩ => exact Fin.ext (by show 0 = (j 0).val; omega)
  | ⟨1, _⟩ => exact Fin.ext (by show 0 = (j 1).val; omega)
  | ⟨2, _⟩ => rfl
  | ⟨3, _⟩ => rfl

/-- An element of a batch's slot has that batch's index. -/
theorem r3_emb (b : Fin 2) (j : S1x128x512.Idx) : (r3 b).emb j = ix3 b (j 1) (j 2) := by
  have hj : (j 0).val < 1 := (j 0).isLt
  funext a
  match a with
  | ⟨0, _⟩ => apply Fin.ext; show b.val + 1 * (j 0).val = b.val; omega
  | ⟨1, _⟩ => apply Fin.ext; show 0 + 1 * (j 1).val = (j 1).val; omega
  | ⟨2, _⟩ => apply Fin.ext; show 0 + 1 * (j 2).val = (j 2).val; omega

/-- An element of a slot has that slot's batch and row block. -/
theorem r4_emb (t : Fin 2 × Fin 4) (j : S1x1x128x512.Idx) : (r4 t).emb j = ix4 t.1 t.2 (j 2) (j 3) := by
  have hj : (j 0).val < 1 := (j 0).isLt
  have hj1 : (j 1).val < 1 := (j 1).isLt
  funext a
  match a with
  | ⟨0, _⟩ => apply Fin.ext; show t.1.val + 1 * (j 0).val = t.1.val; omega
  | ⟨1, _⟩ => apply Fin.ext; show t.2.val + 1 * (j 1).val = t.2.val; omega
  | ⟨2, _⟩ => apply Fin.ext; show 0 + 1 * (j 2).val = (j 2).val; omega
  | ⟨3, _⟩ => apply Fin.ext; show 0 + 1 * (j 3).val = (j 3).val; omega

/-- An index lies in a batch's slot when its first coordinate is the batch. -/
theorem mem_r3 (b : Fin 2) (i : S2x128x512.Idx) : i ∈ (r3 b).set ↔ (show Fin 2 from i 0) = b := by
  rw [← Rect.map_emb_univ, Finset.mem_map]
  constructor
  · rintro ⟨j, -, rfl⟩; exact congrFun (r3_emb b j) 0
  · intro h
    refine ⟨in3 (i 1) (i 2), Finset.mem_univ _, (r3_emb b _).trans ?_⟩
    subst h; funext a; match a with | ⟨0, _⟩ => rfl | ⟨1, _⟩ => rfl | ⟨2, _⟩ => rfl

/-- An index lies in a slot when its first two coordinates name it. -/
theorem mem_r4 (t : Fin 2 × Fin 4) (i : S2x4x128x512.Idx) : i ∈ (r4 t).set ↔ ((show Fin 2 from i 0), (show Fin 4 from i 1)) = t := by
  rw [← Rect.map_emb_univ, Finset.mem_map]
  constructor
  · rintro ⟨j, -, rfl⟩; exact Prod.ext (congrFun (r4_emb t j) 0) (congrFun (r4_emb t j) 1)
  · intro h
    refine ⟨in4 (i 2) (i 3), Finset.mem_univ _, (r4_emb t _).trans ?_⟩
    subst h; funext a; match a with | ⟨0, _⟩ => rfl | ⟨1, _⟩ => rfl | ⟨2, _⟩ => rfl | ⟨3, _⟩ => rfl

/-- Slots of different batches are disjoint. -/
theorem r3_disjoint (b b' : Fin 2) (h : b ≠ b') : Disjoint (r3 b).set (r3 b').set :=
  Finset.disjoint_left.mpr fun i hi hi' => h (((mem_r3 b i).mp hi).symm.trans ((mem_r3 b' i).mp hi'))
/-- Different slots of a four-block buffer are disjoint. -/
theorem r4_disjoint (t t' : Fin 2 × Fin 4) (h : t ≠ t') : Disjoint (r4 t).set (r4 t').set :=
  Finset.disjoint_left.mpr fun i hi hi' => h (((mem_r4 t i).mp hi).symm.trans ((mem_r4 t' i).mp hi'))
/-- The two batches' slots make up the buffer. -/
theorem r3_cover : (Finset.univ : Finset (Fin 2)).biUnion (fun b => (r3 b).set) = Finset.univ :=
  Finset.eq_univ_iff_forall.mpr fun i => Finset.mem_biUnion.mpr ⟨i 0, Finset.mem_univ _, (mem_r3 _ i).mpr rfl⟩
/-- The eight slots make up the buffer. -/
theorem r4_cover : (Finset.univ : Finset (Fin 2 × Fin 4)).biUnion (fun t => (r4 t).set) = Finset.univ :=
  Finset.eq_univ_iff_forall.mpr fun i => Finset.mem_biUnion.mpr ⟨(i 0, i 1), Finset.mem_univ _, (mem_r4 _ i).mpr rfl⟩

/-- The contents of a whole buffer from those of its slots. -/
def glue3 {α : Type} (V : Fin 2 → S1x128x512.Idx → α) : S2x128x512.Idx → α := fun i => V (i 0) (in3 (i 1) (i 2))
def glue4 {α : Type} (V : Fin 2 → Fin 4 → S1x1x128x512.Idx → α) : S2x4x128x512.Idx → α := fun i => V (i 0) (i 1) (in4 (i 2) (i 3))

/-- On a slot the glued contents are that slot's. -/
theorem glue3_emb {α : Type} (V : Fin 2 → S1x128x512.Idx → α) (b : Fin 2) : (fun j => glue3 V ((r3 b).emb j)) = V b :=
  funext fun j => (congrArg (glue3 V) (r3_emb b j)).trans (congrArg (V b) (in3_eta j))
/-- The same of a four-block buffer. -/
theorem glue4_emb {α : Type} (V : Fin 2 → Fin 4 → S1x1x128x512.Idx → α) (t : Fin 2 × Fin 4) : (fun j => glue4 V ((r4 t).emb j)) = V t.1 t.2 :=
  funext fun j => (congrArg (glue4 V) (r4_emb t j)).trans (congrArg (V t.1 t.2) (in4_eta j))

section Own
variable (c : Dev nD)

/-- Device `c` owns a slot of a `2×128×512` buffer, at share `q`, holding `V`. -/
abbrev own3 {e : EltTy} (c : Dev nD) (M : Memref sig .tc .vmem S2x128x512 e) (b : Fin 2) (q : PosShare TreeShare) (V : S1x128x512.Idx → Elt F e) : sProp 𝕄 :=
  owns (Ix := Unit) (Name := ℕ) (U := UU) (Lvl := ℕ) (c : Thread nD τ) (slot3 M b) q V
/-- Device `c` owns a slot of a `2×4×128×512` buffer outright, holding `V`. -/
abbrev own4 (c : Dev nD) (M : Memref sig .tc .vmem S2x4x128x512 .bf16) (b : Fin 2) (s : Fin 4) (V : S1x1x128x512.Idx → Elt F .bf16) : sProp 𝕄 :=
  owns (Ix := Unit) (Name := ℕ) (U := UU) (Lvl := ℕ) (c : Thread nD τ) (slot4 M b s) fullShare V
/-- Device `c` owns a slot, at whatever contents. -/
def any4 (c : Dev nD) (M : Memref sig .tc .vmem S2x4x128x512 .bf16) (b : Fin 2) (s : Fin 4) : sProp 𝕄 :=
  iprop(∃ V, own4 (F := F) c M b s V)

instance any4_storable (M : Memref sig .tc .vmem S2x4x128x512 .bf16) (b : Fin 2) (s : Fin 4) : BI.Storable (upEmb : UEmb _ 𝕄) (any4 (F := F) c M b s) := by
  unfold any4; infer_instance

/-- A slot with known contents is a slot with some contents. -/
theorem any4_intro (M : Memref sig .tc .vmem S2x4x128x512 .bf16) (b : Fin 2) (s : Fin 4) (V) : own4 (F := F) c M b s V ⊢ any4 (F := F) c M b s := by
  unfold any4; iintro H; iexists V; iexact H

/-- A product over two, written out. -/
theorem two (Φ : Fin 2 → sProp 𝕄) : bigSep Finset.univ Φ = iprop(Φ 0 ∗ Φ 1) := bigSep_univ_eq_bigSepL [0, 1] (by decide) (by decide) Φ
/-- A product over four, written out. -/
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ
/-- A product over three, written out. -/
theorem three (Φ : Fin 3 → sProp 𝕄) : bigSep Finset.univ Φ = iprop(Φ 0 ∗ Φ 1 ∗ Φ 2) := bigSep_univ_eq_bigSepL [0, 1, 2] (by decide) (by decide) Φ

/-- A whole `2×128×512` buffer is its two slots, -/
theorem split3 {e : EltTy} (M : Memref sig .tc .vmem S2x128x512 e) (q : PosShare TreeShare) (X : S2x128x512.Idx → Elt F e) :
    owns (Ix := Unit) (Name := ℕ) (U := UU) (Lvl := ℕ) (c : Thread nD τ) M q X
      ⊢ iprop(own3 (F := F) c M 0 q (fun j => X ((r3 0).emb j)) ∗ own3 (F := F) c M 1 q (fun j => X ((r3 1).emb j))) :=
  (owns_rects (c : Thread nD τ) M q r3 r3_stride r3_disjoint r3_cover X).trans (Entails.of_eq (two _))
/-- and back, holding the glued contents; -/
theorem join3 {e : EltTy} (M : Memref sig .tc .vmem S2x128x512 e) (q : PosShare TreeShare) (V : Fin 2 → S1x128x512.Idx → Elt F e) :
    iprop(own3 (F := F) c M 0 q (V 0) ∗ own3 (F := F) c M 1 q (V 1))
      ⊢ owns (Ix := Unit) (Name := ℕ) (U := UU) (Lvl := ℕ) (c : Thread nD τ) M q (glue3 V) := by
  refine BIBase.Entails.trans ?_ (owns_of_rects (c : Thread nD τ) M q r3 r3_stride r3_disjoint r3_cover (glue3 V))
  rw [two, glue3_emb, glue3_emb]
  exact BI.Entails.refl _

/-- a whole `2×4×128×512` buffer is its eight slots, -/
theorem split4 (M : Memref sig .tc .vmem S2x4x128x512 .bf16) (X : S2x4x128x512.Idx → Elt F .bf16) :
    owns (Ix := Unit) (Name := ℕ) (U := UU) (Lvl := ℕ) (c : Thread nD τ) M fullShare X
      ⊢ iprop((bigSep Finset.univ fun s => any4 (F := F) c M 0 s) ∗ (bigSep Finset.univ fun s => any4 (F := F) c M 1 s)) := by
  refine (owns_rects (c : Thread nD τ) M fullShare r4 r4_stride r4_disjoint r4_cover X).trans ?_
  rw [bigSep_univ_prod, two]
  exact BIClass.sep_mono (bigSep_mono fun s _ => any4_intro c M 0 s _) (bigSep_mono fun s _ => any4_intro c M 1 s _)
/-- and back. -/
theorem join4 (M : Memref sig .tc .vmem S2x4x128x512 .bf16) (V : Fin 2 → Fin 4 → S1x1x128x512.Idx → Elt F .bf16) :
    iprop((bigSep Finset.univ fun s => own4 (F := F) c M 0 s (V 0 s)) ∗ (bigSep Finset.univ fun s => own4 (F := F) c M 1 s (V 1 s)))
      ⊢ owns (Ix := Unit) (Name := ℕ) (U := UU) (Lvl := ℕ) (c : Thread nD τ) M fullShare (glue4 V) := by
  refine BIBase.Entails.trans ?_ (owns_of_rects (c : Thread nD τ) M fullShare r4 r4_stride r4_disjoint r4_cover (glue4 V))
  rw [bigSep_univ_prod, two]
  refine BIClass.sep_mono (bigSep_mono fun s _ => ?_) (bigSep_mono fun s _ => ?_)
  · rw [glue4_emb V (0, s)]; exact BI.Entails.refl _
  · rw [glue4_emb V (1, s)]; exact BI.Entails.refl _

/-- Owning a re-indexed memref at the re-indexed contents is owning the memref. -/
theorem owns_squeeze {s s' : Shape} {e : EltTy} (M : Memref sig .tc .vmem s e) (h : s.Squeezes s') (q : PosShare TreeShare) (f : M.view.ty.Contents (Elt F)) (V : s.Idx → Elt F e)
    (hV : (M.squeeze s' h).view.read (Elt F) f = fun x => V (Shape.reshapeEquiv h.numel_eq x)) :
    ((M.squeeze s' h).view.loc (c : Thread nD τ) ↦[(M.squeeze s' h).view.set]{q} f : sProp 𝕄)
      ⊢ owns (Ix := Unit) (Name := ℕ) (U := UU) (Lvl := ℕ) (c : Thread nD τ) M q V := by
  unfold owns
  iintro H
  iexists f
  isplitr
  · ipureintro
    funext y
    have := congrFun hV ((Shape.reshapeEquiv h.numel_eq).symm y)
    rw [Equiv.apply_symm_apply] at this
    rw [← this]
    show M.view.read (Elt F) f y = M.view.read (Elt F) f (Shape.reshapeEquiv h.numel_eq ((Shape.reshapeEquiv h.numel_eq).symm y))
    rw [Equiv.apply_symm_apply]
  · have hs : (M.squeeze s' h).view.set = M.view.set := View.set_reshape M.view h.numel_eq
    rw [← hs]
    iexact H

end Own

/-! ## What the blocks hold -/

/-- A device's block of rows, cast and laid out for sending. -/
def xsOf (x : S2x128x512.Idx → Elt F .f32) (b : Fin 2) : FVec F S1x128x512 .bf16 := k0_pay1 fun j => x ((r3 b).emb j)

/-- The angles' cosines, sines and the parity of the lane. -/
def ropeA : FVec F S512x256 .f32 :=
  k0_pay22 k0_pay16 k0_pay17 (Scalar.select (Scalar.cmpi .eq 2#32 0#32) 1#32 2#32) k0_pay18 k0_pay19 k0_pay20
    (Scalar.cmpi .slt (Scalar.select (Scalar.cmpi .eq 2#32 0#32) 1#32 2#32) 0#32)
def ropeB : FVec F S512x256 .f32 :=
  k0_pay23 k0_pay16 k0_pay17 (Scalar.select (Scalar.cmpi .eq 2#32 0#32) 1#32 2#32) k0_pay18 k0_pay19 k0_pay20
    (Scalar.cmpi .slt (Scalar.select (Scalar.cmpi .eq 2#32 0#32) 1#32 2#32) 0#32)
def evenLane : IVec S512x256 1 := k0_pay24 k0_pay17

section Attn
variable (wq wk wv : FVec F S512x256 .f32) (wo : FVec F S256x512 .f32) (g : Fin 4 → FVec F S1x1x128x512 .bf16)

/-- The rotated queries and keys and the values, from the gathered rows `g`. -/
def qOf : FVec F S512x256 .bf16 := k0_pay26 (k0_pay12 wq) ropeA ropeB evenLane (g 0) (g 1) (g 2) (g 3)
def kOf : FVec F S512x256 .bf16 := k0_pay27 (k0_pay13 wk) ropeA ropeB evenLane (g 0) (g 1) (g 2) (g 3)
def vOf : FVec F S512x256 .bf16 := k0_pay28 (k0_pay14 wv) (g 0) (g 1) (g 2) (g 3)
/-- The first three heads' contexts. -/
def head0 : FVec F S512x64 .bf16 :=
  k0_pay31 (k0_pay29 (k0_pay14 wv) (g 0) (g 1) (g 2) (g 3)) (k0_pay30 (k0_pay12 wq) (k0_pay13 wk) ropeA ropeB evenLane (g 0) (g 1) (g 2) (g 3))
def head1 : FVec F S512x64 .bf16 := k0_pay32 (qOf wq g) (kOf wk g) (vOf wv g)
def head2 : FVec F S512x64 .bf16 := k0_pay33 (qOf wq g) (kOf wk g) (vOf wv g)

/-- The device's partial product: row block `s`, of the gathered rows `g`. -/
def poOf (s : Fin 4) : FVec F S1x1x128x512 .bf16 := match s with
  | 0 => k0_pay35 (k0_pay15 wo) (qOf wq g) (kOf wk g) (vOf wv g) (head0 wq wk wv g) (head1 wq wk wv g) (head2 wq wk wv g)
  | 1 => k0_pay36 (k0_pay15 wo) (qOf wq g) (kOf wk g) (vOf wv g) (head0 wq wk wv g) (head1 wq wk wv g) (head2 wq wk wv g)
  | 2 => k0_pay37 (k0_pay15 wo) (qOf wq g) (kOf wk g) (vOf wv g) (head0 wq wk wv g) (head1 wq wk wv g) (head2 wq wk wv g)
  | 3 => k0_pay39 (k0_pay38 (k0_pay15 wo) (qOf wq g) (kOf wk g) (vOf wv g) (head0 wq wk wv g) (head1 wq wk wv g) (head2 wq wk wv g))

end Attn

/-- The sum of the four partial products of a row block. -/
def outOf (p : Fin 4 → FVec F S1x1x128x512 .bf16) : FVec F S1x128x512 .f32 := k0_pay66 (p 0) (p 1) (p 2) (p 3)

section Values
variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- The windows' staged arguments. -/
def xstg (c : Dev nD) : S2x128x512.Idx → Elt F .f32 := (win0_0.blk (0 : Fin 1)).view.read (Elt F) ((s₀ m ρ).mem ((c : Thread nD τ).loc main_arg0))
def wqstg (c : Dev nD) : S512x256.Idx → Elt F .f32 := (win0_1.blk (0 : Fin 1)).view.read (Elt F) ((s₀ m ρ).mem ((c : Thread nD τ).loc main_arg1))
def wkstg (c : Dev nD) : S512x256.Idx → Elt F .f32 := (win0_2.blk (0 : Fin 1)).view.read (Elt F) ((s₀ m ρ).mem ((c : Thread nD τ).loc main_arg2))
def wvstg (c : Dev nD) : S512x256.Idx → Elt F .f32 := (win0_3.blk (0 : Fin 1)).view.read (Elt F) ((s₀ m ρ).mem ((c : Thread nD τ).loc main_arg3))
def wostg (c : Dev nD) : S256x512.Idx → Elt F .f32 := (win0_4.blk (0 : Fin 1)).view.read (Elt F) ((s₀ m ρ).mem ((c : Thread nD τ).loc main_arg4))

/-- What device `c` sends of its rows, -/
def XS (c : Dev nD) (b : Fin 2) : FVec F S1x128x512 .bf16 := xsOf (xstg m ρ c) b
/-- what every device gathers of device `s`'s rows, -/
def XF (b : Fin 2) (s : Fin 4) : FVec F S1x1x128x512 .bf16 := k0_pay4 (XS m ρ s b)
/-- device `c`'s partial product of row block `s`, -/
def PO (c : Dev nD) (b : Fin 2) (s : Fin 4) : FVec F S1x1x128x512 .bf16 :=
  poOf (wqstg m ρ c) (wkstg m ρ c) (wvstg m ρ c) (wostg m ρ c) (XF m ρ b) s
/-- what device `c` receives of device `s`'s partial product, -/
def RB (c : Dev nD) (b : Fin 2) (s : Fin 4) : FVec F S1x1x128x512 .bf16 := PO m ρ s b c
/-- and its result. -/
def OUT (c : Dev nD) (b : Fin 2) : FVec F S1x128x512 .f32 := outOf (RB m ρ c b)

end Values

end Cert.KernelIdeal.Prot

end
-- ==== Proof.KernelIdeal.Cells.lean ====
/-
  The semaphores of the kernel as a protocol: one barrier cell, and per phase (gather, scatter) and batch three send cells and four receive cells on each
  device; what each cell's signals hand over, what each device owes at launch, and the levels that order the waits.
-/
module

public import proofs.«01_k».proof.Proof.KernelIdeal.Blocks

@[expose] public section

noncomputable section

namespace Cert.KernelIdeal.Prot

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Peers -/

set_option backward.proofsInPublic true in
/-- The device `o + 1` places after `c`. -/
def peer (c : Dev nD) (o : Fin 3) : Dev nD := ⟨(c.val + o.val + 1) % 4, Nat.mod_lt _ (by decide)⟩

/-- A peer is another device. -/
theorem peer_ne (c : Dev nD) (o : Fin 3) : peer c o ≠ c := by revert c o; decide
/-- And the device is not its peer. -/
theorem ne_peer (c : Dev nD) (o : Fin 3) : c ≠ peer c o := by revert c o; decide
/-- Different offsets reach different peers. -/
theorem peer_inj (c : Dev nD) {o o' : Fin 3} : peer c o = peer c o' → o = o' := by revert c o o'; decide

/-! ## The cells -/

/-- The transfers' semaphores: `inl (p, b, o)` the send semaphore of phase `p` (0 the gather, 1 the scatter), batch `b`, offset `o + 1`; `inr (p, b, s)` the
    receive semaphore of phase `p`, batch `b` for what device `s` sends. -/
abbrev Dc : Type := (Fin 2 × Fin 2 × Fin 3) ⊕ (Fin 2 × Fin 2 × Fin 4)
/-- All the protocol's semaphores: `none` the barrier. -/
abbrev Cl : Type := Option Dc

instance decDc : DecidableEq Dc := inferInstance
instance decCl : DecidableEq Cl := inferInstance
instance decOCl : DecidableEq (Option Cl) := inferInstance
instance decDevCl : DecidableEq (Dev nD × Cl) := inferInstance

abbrev barS : Sem sig := (SemArray.scalar (sig.barrier 0 rfl) : Sems sig S_).sem

set_option backward.proofsInPublic true in
def sndSem (p b : Fin 2) (o : Fin 3) : DmaSem sig := ⟨6 + 14 * p.val + 3 * b.val + o.val, by revert p b o; decide⟩
set_option backward.proofsInPublic true in
def rcvSem (p b : Fin 2) (s : Fin 4) : DmaSem sig := ⟨12 + 14 * p.val + 4 * b.val + s.val, by revert p b s; decide⟩

def osem : Dc → SemLoc sig
  | .inl t => .dma (sndSem t.1 t.2.1 t.2.2)
  | .inr t => .dma (rcvSem t.1 t.2.1 t.2.2)
def csem : Cl → SemLoc sig
  | none => .reg barS
  | some k => osem k
def cell (c : Dev nD) (k : Cl) : GSem nD τ sig := ((c : Thread nD τ), csem k)

def allDc : List Dc := ((List.finRange 2).flatMap fun p => (List.finRange 2).flatMap fun b => (List.finRange 3).map fun o => (Sum.inl (p, b, o) : Dc))
  ++ (List.finRange 2).flatMap fun p => (List.finRange 2).flatMap fun b => (List.finRange 4).map fun s => (Sum.inr (p, b, s) : Dc)

/-- Which of the protocol's semaphores a semaphore is. -/
def kindOf (sm : SemLoc sig) : Option Cl := (none :: allDc.map some).find? fun k => csem k = sm

/-- A cell's semaphore tells the cell. -/
theorem kindOf_csem (k : Cl) : kindOf (csem k) = some k := by revert k; decide
/-- Different cells of a device have different semaphores. -/
theorem csem_inj {k k' : Cl} (h : csem k = csem k') : k = k' := Option.some.inj (by rw [← kindOf_csem k, h, kindOf_csem])
/-- A cell tells its device and its kind. -/
theorem cell_inj {c c' : Dev nD} {k k' : Cl} (h : cell c k = cell c' k') : c = c' ∧ k = k' :=
  ⟨Fin.ext (congrArg (fun g : GSem nD τ sig => g.1.1.val) h), csem_inj (congrArg Prod.snd h)⟩

/-- One slot's credit. -/
def N : ℕ := ((slot4 gM 0 0).squeeze S128x512 squeezes_S1x1x128x512_S128x512).view.dmaCredit
/-- A block's copy counts for something. -/
theorem N_pos : 0 < N := View.dmaCredit_pos _ (by decide)

/-! ## The share of `xsend` lent to each of a batch's three sends, and the one kept -/

def sq : Fin 3 → PosShare TreeShare
  | 0 => fullShare.left.left
  | 1 => fullShare.left.right
  | 2 => fullShare.right.left
def kq : PosShare TreeShare := fullShare.right.right

section Shares
omit [FloatOps F]
variable (c : Dev nD) (b : Fin 2) (V : S1x128x512.Idx → Elt F .bf16)

/-- A batch's rows are shared out: one share for each send, one kept. -/
theorem lend : own3 (F := F) c sM b fullShare V
    ⊢ iprop(own3 (F := F) c sM b (sq 0) V ∗ own3 (F := F) c sM b (sq 1) V ∗ own3 (F := F) c sM b (sq 2) V ∗ own3 (F := F) c sM b kq V) := by
  iintro H
  ihave H' := (owns_halves (c := (c : Thread nD τ)) (m := slot3 sM b) (q := fullShare) V).1 $$ H
  icases H' with ⟨H1, H2⟩
  ihave H1' := (owns_halves (c := (c : Thread nD τ)) (m := slot3 sM b) (q := fullShare.left) V).1 $$ H1
  ihave H2' := (owns_halves (c := (c : Thread nD τ)) (m := slot3 sM b) (q := fullShare.right) V).1 $$ H2
  icases H1' with ⟨H1, H3⟩
  icases H2' with ⟨H2, H4⟩
  isplitl [H1]; · iexact H1
  isplitl [H3]; · iexact H3
  isplitl [H2]; · iexact H2
  iexact H4

/-- The shares make the whole again. -/
theorem collect : iprop(own3 (F := F) c sM b (sq 0) V ∗ own3 (F := F) c sM b (sq 1) V ∗ own3 (F := F) c sM b (sq 2) V ∗ own3 (F := F) c sM b kq V)
    ⊢ own3 (F := F) c sM b fullShare V := by
  iintro ⟨H1, H3, H2, H4⟩
  iapply (owns_halves (c := (c : Thread nD τ)) (m := slot3 sM b) (q := fullShare) V).2
  isplitl [H1 H3]
  · iapply (owns_halves (c := (c : Thread nD τ)) (m := slot3 sM b) (q := fullShare.left) V).2
    isplitl [H1]; · iexact H1
    iexact H3
  · iapply (owns_halves (c := (c : Thread nD τ)) (m := slot3 sM b) (q := fullShare.right) V).2
    isplitl [H2]; · iexact H2
    iexact H4
end Shares

variable (m : (ℓ : Loc nD τ sig) → Buf (Elt F) ℓ) (ρ : Dev nD → PrngReg)

/-! ## The schedule -/

/-- The landing slots device `p` hands device `c` with its barrier signal: `c`'s slots of `p`'s gather and receive buffers, both batches. -/
def barPay (c p : Dev nD) : sProp 𝕄 :=
  iprop(any4 (F := F) p gM 0 c ∗ any4 (F := F) p gM 1 c ∗ any4 (F := F) p rM 0 c ∗ any4 (F := F) p rM 1 c)
/-- What a send's completion hands back: its share of the slot sent. -/
def sndPay (c : Dev nD) (p b : Fin 2) (o : Fin 3) : sProp 𝕄 := match p with
  | 0 => own3 (F := F) c sM b (sq o) (XS m ρ c b)
  | 1 => own4 (F := F) c pM b (peer c o) (PO m ρ c b (peer c o))
/-- What a landing hands over: the slot, filled. -/
def rcvPay (c : Dev nD) (p b : Fin 2) (s : Fin 4) : sProp 𝕄 := match p with
  | 0 => own4 (F := F) c gM b s (XF m ρ b s)
  | 1 => own4 (F := F) c rM b s (RB m ρ c b s)

def dutiesOf (c : Dev nD) : Option Cl → Finset (Dev nD)
  | some none => Finset.univ.erase c
  | some (some (.inl _)) => {c}
  | some (some (.inr t)) => if t.2.2 = c then ∅ else {t.2.2}
  | none => ∅
def amountFor : Option Cl → ℕ
  | some none => 1
  | _ => N
def payFor (c : Dev nD) (d : Dev nD) : Option Cl → sProp 𝕄
  | some none => barPay c d
  | some (some (.inl t)) => sndPay m ρ c t.1 t.2.1 t.2.2
  | some (some (.inr t)) => rcvPay m ρ c t.1 t.2.1 t.2.2
  | none => iprop(emp)

/-- Every duty has a positive amount. -/
theorem amountFor_pos (k : Option Cl) : 0 < amountFor k := by
  unfold amountFor; split
  · exact Nat.one_pos
  · exact N_pos

instance barPay_storable (c p : Dev nD) : BI.Storable (upEmb : UEmb _ 𝕄) (barPay (F := F) c p) := by unfold barPay; infer_instance
instance sndPay_storable (c : Dev nD) (p b : Fin 2) (o : Fin 3) : BI.Storable (upEmb : UEmb _ 𝕄) (sndPay (F := F) m ρ c p b o) := by
  unfold sndPay; split <;> infer_instance
instance rcvPay_storable (c : Dev nD) (p b : Fin 2) (s : Fin 4) : BI.Storable (upEmb : UEmb _ 𝕄) (rcvPay (F := F) m ρ c p b s) := by
  unfold rcvPay; split <;> infer_instance
instance payFor_storable (c d : Dev nD) (k : Option Cl) : BI.Storable (upEmb : UEmb _ 𝕄) (payFor (F := F) m ρ c d k) := by
  unfold payFor; split <;> infer_instance

/-- One round: its duties, amounts and payloads by the cell's kind. -/
def Rd : Rounds.Schedule (GSem nD τ sig) (Dev nD) 𝕄 where
  duties g r := if r = 0 ∧ g.1.2 = .tc then dutiesOf g.1.1 (kindOf g.2) else ∅
  unitless _ := False
  amount g _ _ := amountFor (kindOf g.2)
  payload g _ d := payFor m ρ g.1.1 d (kindOf g.2)
  amount_pos g _ _ _ := amountFor_pos _

instance Rd_storable (g : GSem nD τ sig) (r : ℕ) (d : Dev nD) : BI.Storable (upEmb : UEmb _ 𝕄) ((Rd (F := F) m ρ).payload g r d) := payFor_storable m ρ _ _ _

section Sched
variable (c : Dev nD)

/-- Who has a duty on a cell. -/
theorem duties_cell (k : Cl) : (Rd (F := F) m ρ).duties (cell c k) 0 = dutiesOf c (some k) := by
  show (if (0 : ℕ) = 0 ∧ (cell c k).1.2 = .tc then dutiesOf c (kindOf (csem k)) else ∅) = _
  rw [if_pos ⟨rfl, rfl⟩, kindOf_csem]
/-- How much a duty on a cell pays. -/
theorem amount_cell (k : Cl) (d : Dev nD) : (Rd (F := F) m ρ).amount (cell c k) 0 d = amountFor (some k) := congrArg amountFor (kindOf_csem k)
/-- What a duty on a cell hands over. -/
theorem payload_cell (k : Cl) (d : Dev nD) : (Rd (F := F) m ρ).payload (cell c k) 0 d = payFor m ρ c d (some k) := congrArg (payFor m ρ c d) (kindOf_csem k)
/-- There is one round only. -/
theorem duties_later (g : GSem nD τ sig) : ∀ r, 1 ≤ r → (Rd (F := F) m ρ).duties g r = ∅ :=
  fun r hr => if_neg fun h => by have := h.1; omega
/-- No one pays the cell that a device has for itself. -/
theorem duties_idle (p b : Fin 2) : ∀ r, 0 ≤ r → (Rd (F := F) m ρ).duties (cell c (some (.inr (p, b, c)))) r = ∅ := fun r _ => by
  rcases Nat.eq_zero_or_pos r with rfl | h
  · rw [duties_cell]; exact if_pos rfl
  · exact duties_later m ρ _ r h

/-- A device has a duty on each peer's barrier, -/
theorem bar_mem (o : Fin 3) : c ∈ (Rd (F := F) m ρ).duties (cell (peer c o) none) 0 := by
  rw [duties_cell]; exact Finset.mem_erase.mpr ⟨ne_peer c o, Finset.mem_univ _⟩
/-- on each of its own send cells, -/
theorem snd_mem (t) : c ∈ (Rd (F := F) m ρ).duties (cell c (some (.inl t))) 0 := by rw [duties_cell]; exact Finset.mem_singleton_self _
/-- and on its receive cell at each peer. -/
theorem rcv_mem (p b : Fin 2) (o : Fin 3) : c ∈ (Rd (F := F) m ρ).duties (cell (peer c o) (some (.inr (p, b, c)))) 0 := by
  rw [duties_cell]; show c ∈ (if c = peer c o then ∅ else {c}); rw [if_neg (ne_peer c o)]; exact Finset.mem_singleton_self _

/-- A barrier waits for three signals, -/
theorem expect_bar : (Rd (F := F) m ρ).expect (cell c none) 0 = 3 := by
  unfold Schedule.expect Schedule.amountOf
  rw [duties_cell, Finset.sum_congr rfl fun d _ => amount_cell m ρ c none d]
  show ∑ d ∈ Finset.univ.erase c, 1 = 3
  revert c; decide
/-- a send cell for one block, -/
theorem expect_snd (t) : (Rd (F := F) m ρ).expect (cell c (some (.inl t))) 0 = N := by
  unfold Schedule.expect Schedule.amountOf
  rw [duties_cell, Finset.sum_congr rfl fun d _ => amount_cell m ρ c _ d]
  exact Finset.sum_singleton _ _
/-- and a receive cell for one block. -/
theorem expect_rcv (p b : Fin 2) (s : Fin 4) (h : s ≠ c) : (Rd (F := F) m ρ).expect (cell c (some (.inr (p, b, s)))) 0 = N := by
  unfold Schedule.expect Schedule.amountOf
  rw [duties_cell, Finset.sum_congr rfl fun d _ => amount_cell m ρ c _ d]
  show ∑ d ∈ (if s = c then ∅ else {s}), N = N
  rw [if_neg h]; exact Finset.sum_singleton _ _

/-- The other devices are the three peers. -/
theorem others : bigSep (Finset.univ.erase c) (fun d => barPay (F := F) c d) = iprop(barPay (F := F) c (peer c 0) ∗ barPay (F := F) c (peer c 1) ∗ barPay (F := F) c (peer c 2)) :=
  bigSep_eq_bigSepL_of_eq [peer c 0, peer c 1, peer c 2] (by revert c; decide) (by revert c; decide) _

/-- What a barrier hands over: what each of the three peers gives. -/
theorem rest_bar : bigSep ((Rd (F := F) m ρ).duties (cell c none) 0 \ ∅) (fun d => (Rd (F := F) m ρ).payload (cell c none) 0 d)
    = iprop(barPay (F := F) c (peer c 0) ∗ barPay (F := F) c (peer c 1) ∗ barPay (F := F) c (peer c 2)) := by
  rw [Finset.sdiff_empty, duties_cell, ← others]
  exact bigSep_congr fun d _ => payload_cell m ρ c none d
/-- What a send cell hands over. -/
theorem rest_snd (t) : bigSep ((Rd (F := F) m ρ).duties (cell c (some (.inl t))) 0 \ ∅) (fun d => (Rd (F := F) m ρ).payload (cell c (some (.inl t))) 0 d)
    = sndPay m ρ c t.1 t.2.1 t.2.2 := by
  rw [Finset.sdiff_empty, duties_cell]
  exact bigSep_singleton.trans (payload_cell m ρ c _ _)
/-- What a receive cell hands over. -/
theorem rest_rcv (p b : Fin 2) (s : Fin 4) (h : s ≠ c) :
    bigSep ((Rd (F := F) m ρ).duties (cell c (some (.inr (p, b, s)))) 0 \ ∅) (fun d => (Rd (F := F) m ρ).payload (cell c (some (.inr (p, b, s)))) 0 d)
      = rcvPay m ρ c p b s := by
  rw [Finset.sdiff_empty, duties_cell]
  show bigSep (if s = c then ∅ else {s}) _ = _
  rw [if_neg h]
  exact bigSep_singleton.trans (payload_cell m ρ c _ _)

end Sched

/-! ## What a device owes; the levels -/

/-- Tallies owed, the head of the list peeled first. -/
def owl : List (GSem nD τ sig × ℕ) → CellTallies nD τ sig Unit
  | [] => 0
  | x :: l => owl l + tallyAt x.1 () x.2

/-- What is owed to a cell is on the list. -/
theorem owl_pos {l : List (GSem nD τ sig × ℕ)} {g : GSem nD τ sig} {u : Unit} (h : 0 < owl l g u) : ∃ x ∈ l, g = x.1 := by
  induction l with
  | nil => exact absurd h (Nat.lt_irrefl 0)
  | cons x l ih =>
    unfold owl at h
    rw [Pi.add_apply, Finsupp.add_apply, tallyAt_apply] at h
    by_cases hg : g = x.1 ∧ u = ()
    · exact ⟨x, List.mem_cons_self .., hg.1⟩
    · rw [if_neg hg, Nat.add_zero] at h
      obtain ⟨y, hy, e⟩ := ih h
      exact ⟨y, List.mem_cons_of_mem _ hy, e⟩

/-- The credit of one transfer, owed to the peer's receive cell. -/
def due (c : Dev nD) (t : Fin 2 × Fin 2 × Fin 3) : GSem nD τ sig × ℕ := (cell (peer c t.2.2) (some (.inr (t.1, t.2.1, c))), N)
/-- The unit owed to a peer's barrier cell. -/
def barDue (c : Dev nD) (o : Fin 3) : GSem nD τ sig × ℕ := (cell (peer c o) none, 1)

/-- The transfers in the order they are started. -/
def sends : List (Fin 2 × Fin 2 × Fin 3) :=
  [(0,0,0), (0,0,1), (0,0,2), (0,1,0), (0,1,1), (0,1,2), (1,0,0), (1,0,1), (1,0,2), (1,1,0), (1,1,1), (1,1,2)]

/-- What is owed once the first `n` transfers have been started; -/
def owd (c : Dev nD) (n : ℕ) : CellTallies nD τ sig Unit := owl ((sends.drop n).map (due c))
/-- and at launch. -/
def O₀ (c : Dev nD) : CellTallies nD τ sig Unit := owl ([0, 1, 2].map (barDue c) ++ sends.map (due c))

def L (g : GSem nD τ sig) : Finset Unit := if g.1.2 = .tc then {()} else ∅
/-- Staging and send cells at 0, barrier cells at 1, the gather's receive cells at 2, the scatter's at 3. -/
def lvK : Option Cl → ℕ
  | some none => 1
  | some (some (.inr t)) => 2 + t.1.val
  | _ => 0
def lv (g : GSem nD τ sig) (_ : Unit) : ℕ := lvK (kindOf g.2)

/-- Only the devices' main threads have levels. -/
theorem L_of_ne (g : GSem nD τ sig) (h : g.1.2 ≠ .tc) : L g = ∅ := if_neg h
/-- A main thread's cells have one level each. -/
theorem L_tc (c : Dev nD) (sm : SemLoc sig) : L ((c : Thread nD τ), sm) = {()} := if_pos rfl
/-- A cell's level is that of its kind. -/
theorem lv_cell (c : Dev nD) (k : Cl) (u : Unit) : lv (cell c k) u = lvK (some k) := congrArg lvK (kindOf_csem k)

/-- A wait is allowed when every transfer still to be started lands at a higher level than the cell waited on. -/
theorem mayWait_owd (c : Dev nD) (sm : SemLoc sig) (n : ℕ) (h : ∀ t ∈ sends.drop n, lvK (kindOf sm) < 2 + t.1.val) :
    (levAts L lv : sProp 𝕄) ⊢ MayWait (c : Thread nD τ) sm () (owd c n) :=
  MayOwe.of_cut (L := L) (lev := lv) (lvK (kindOf sm)) (fun p hp => by rw [Finset.mem_singleton.mp hp, L_tc]; exact Finset.mem_singleton_self _)
    (fun g u hg => by
      obtain ⟨x, hx, rfl⟩ := owl_pos hg
      obtain ⟨t, -, rfl⟩ := List.mem_map.mp hx
      exact Finset.mem_singleton_self _)
    (fun p hp => by rw [Finset.mem_singleton.mp hp]; exact le_refl _)
    (fun g u hg => by
      obtain ⟨x, hx, rfl⟩ := owl_pos hg
      obtain ⟨t, ht, rfl⟩ := List.mem_map.mp hx
      show lvK (kindOf sm) < lv (cell _ _) u
      rw [lv_cell]
      exact h t ht)

/-- A staging wait, at level 0, is always allowed. -/
theorem mayWait_stage (c : Dev nD) (sm : SemLoc sig) (h : lvK (kindOf sm) = 0) (O : CellTallies nD τ sig Unit) (hO : O = O₀ c ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => ?_) (fun p hp => by rw [Finset.mem_singleton.mp hp]; exact le_of_eq h) (fun g u hg => ?_)
    · obtain ⟨x, hx, rfl⟩ := owl_pos hg
      rcases List.mem_append.mp hx with hx | hx <;> obtain ⟨t, -, rfl⟩ := List.mem_map.mp hx <;> exact Finset.mem_singleton_self _
    · obtain ⟨x, hx, rfl⟩ := owl_pos hg
      rcases List.mem_append.mp hx with hx | hx <;> obtain ⟨t, -, rfl⟩ := List.mem_map.mp hx
      · show 0 < lv (cell _ _) u; rw [lv_cell]; exact Nat.one_pos
      · show 0 < lv (cell _ _) u; rw [lv_cell]; exact Nat.lt_of_lt_of_le Nat.two_pos (Nat.le_add_right 2 _)
  · rw [MayWait_zero]; iintro -; iempintro

/-! ## What every step may consult -/

/-- The cells' invariants at the names `K`, that every cell has reached its round, and the levels. -/
def ctx (K : Dev nD × Cl → ℕ) : sProp 𝕄 :=
  iprop((bigSep Finset.univ fun ck : Dev nD × Cl => cellInv ER (Rd (F := F) m ρ) (K ck) (cell ck.1 ck.2))
    ∗ (bigSep Finset.univ fun ck : Dev nD × Cl => reached ER (cell ck.1 ck.2) 0) ∗ levAts L lv)

instance ctx_persistent (K : Dev nD × Cl → ℕ) : BI.Persistent (ctx (F := F) m ρ K) := by unfold ctx; infer_instance

/-- The shared context holds every cell's invariant, -/
theorem ctx_inv (K : Dev nD × Cl → ℕ) (c : Dev nD) (k : Cl) : ctx (F := F) m ρ K ⊢ cellInv ER (Rd (F := F) m ρ) (K (c, k)) (cell c k) := by
  unfold ctx
  iintro ⟨H, -, -⟩
  iapply (show (bigSep Finset.univ fun ck : Dev nD × Cl => cellInv ER (Rd (F := F) m ρ) (K ck) (cell ck.1 ck.2) : sProp 𝕄)
    ⊢ cellInv ER (Rd (F := F) m ρ) (K (c, k)) (cell c k) from bigSep_elim (Finset.mem_univ (c, k)))
  iexact H
/-- that every cell has reached its round, -/
theorem ctx_reached (K : Dev nD × Cl → ℕ) (c : Dev nD) (k : Cl) : ctx (F := F) m ρ K ⊢ reached ER (cell c k) 0 := by
  unfold ctx
  iintro ⟨-, H, -⟩
  iapply (show (bigSep Finset.univ fun ck : Dev nD × Cl => reached ER (cell ck.1 ck.2) 0 : sProp 𝕄) ⊢ reached ER (cell c k) 0
    from bigSep_elim (Finset.mem_univ (c, k)))
  iexact H
/-- and the levels. -/
theorem ctx_lev (K : Dev nD × Cl → ℕ) : ctx (F := F) m ρ K ⊢ levAts L lv := by
  unfold ctx
  iintro ⟨-, -, H⟩; iexact H

/-- What a device owes, whatever it has already waited for. -/
def ow (c : Dev nD) (O : CellTallies nD τ sig Unit) : sProp 𝕄 := iprop(∃ W, owes (c : Thread nD τ) O W)

end Cert.KernelIdeal.Prot

end
-- ==== Proof.KernelIdeal.Steps.lean ====
/-
  One rule per kind of step the kernel takes: a load or store of a slot, a barrier signal, a transfer, a wait. Each is stated once for every device, phase,
  batch and offset; where the program computes an offset, a device or a semaphore, the rule takes it with an equation to the one meant.
-/
module

public import proofs.«01_k».proof.Proof.KernelIdeal.Cells

@[expose] public section

noncomputable section

namespace Cert.KernelIdeal.Prot

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Device `c` runs `p` to a state satisfying `Q`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable {c : Dev nD}

/-! ## Loads and stores -/

/-- A load of a slot of a four-block buffer gives its contents. -/
theorem load4 (M : Memref sig .tc .vmem S2x4x128x512 .bf16) (b : Fin 2) (s : Fin 4) {V : S1x1x128x512.Idx → Elt F .bf16} {off : Fin 4 → ℕ}
    {inb : ∀ a, off a + S1x1x128x512.size a ≤ S2x4x128x512.size a} {hl} {α : Type} {Q : α → sProp 𝕄} {k : (S1x1x128x512.Idx → Elt F .bf16) → Prog (TpuEff nD τ sig (Elt F) Λ₀ .tc) α}
    (h : off = ![b.val, s.val, 0, 0]) :
    own4 (F := F) c M b s V ⊢ iprop((own4 (F := F) c M b s V -∗ run c (k V) Q)
      -∗ run c (.op (.load M (Rect.unit (s := S2x4x128x512) off S1x1x128x512.size inb).toLoadRect hl) k) Q) := by
  subst h
  unfold own4 owns
  iintro ⟨%f, %hf, H⟩ Hk
  subst hf
  iapply (wp_load_rect 𝒱₀ (c : Thread nD τ) none Set.univ (m := M) (r := r4 (b, s)) (S := (slot4 M b s).view.set) (q := fullShare) (f := f) (hS := Finset.Subset.refl _)) $$ H
  iintro H
  iapply Hk
  iexists f
  isplitr; · ipureintro; rfl
  iexact H

/-- A store into such a slot replaces its contents. -/
theorem store4 (M : Memref sig .tc .vmem S2x4x128x512 .bf16) (b : Fin 2) (s : Fin 4) {V w : S1x1x128x512.Idx → Elt F .bf16} {off : Fin 4 → ℕ}
    {inb : ∀ a, off a + S1x1x128x512.size a ≤ S2x4x128x512.size a} {hx hm} {α : Type} {Q : α → sProp 𝕄} {k : PUnit → Prog (TpuEff nD τ sig (Elt F) Λ₀ .tc) α}
    (h : off = ![b.val, s.val, 0, 0]) :
    own4 (F := F) c M b s V ⊢ iprop((own4 (F := F) c M b s w -∗ run c (k ⟨⟩) Q)
      -∗ run c (.op (.store M (Rect.unit (s := S2x4x128x512) off S1x1x128x512.size inb) w Finset.univ hx hm) k) Q) := by
  subst h
  unfold own4 owns
  iintro ⟨%f, -, H⟩ Hk
  iapply (wp_store 𝒱₀ (c : Thread nD τ) none Set.univ (m := M) (r := r4 (b, s)) (Mk := Finset.univ) (S := (slot4 M b s).view.set) (f := f) (Finset.Subset.refl _)) $$ H
  iintro H
  iapply Hk
  iexists (slot4 M b s).view.write (Elt F) f w Finset.univ
  isplitr; · ipureintro; exact View.read_write_univ _ _
  iexact H

/-- A load of a batch's slot gives its contents. -/
theorem load3 {e : EltTy} (M : Memref sig .tc .vmem S2x128x512 e) (b : Fin 2) {q : PosShare TreeShare} {V : S1x128x512.Idx → Elt F e} {off : Fin 3 → ℕ}
    {inb : ∀ a, off a + S1x128x512.size a ≤ S2x128x512.size a} {hl} {α : Type} {Q : α → sProp 𝕄} {k : (S1x128x512.Idx → Elt F e) → Prog (TpuEff nD τ sig (Elt F) Λ₀ .tc) α}
    (h : off = ![b.val, 0, 0]) :
    own3 (F := F) c M b q V ⊢ iprop((own3 (F := F) c M b q V -∗ run c (k V) Q)
      -∗ run c (.op (.load M (Rect.unit (s := S2x128x512) off S1x128x512.size inb).toLoadRect hl) k) Q) := by
  subst h
  unfold own3 owns
  iintro ⟨%f, %hf, H⟩ Hk
  subst hf
  iapply (wp_load_rect 𝒱₀ (c : Thread nD τ) none Set.univ (m := M) (r := r3 b) (S := (slot3 M b).view.set) (q := q) (f := f) (hS := Finset.Subset.refl _)) $$ H
  iintro H
  iapply Hk
  iexists f
  isplitr; · ipureintro; rfl
  iexact H

/-- A store into a batch's slot replaces its contents. -/
theorem store3 {e : EltTy} (M : Memref sig .tc .vmem S2x128x512 e) (b : Fin 2) {V w : S1x128x512.Idx → Elt F e} {off : Fin 3 → ℕ}
    {inb : ∀ a, off a + S1x128x512.size a ≤ S2x128x512.size a} {hx hm} {α : Type} {Q : α → sProp 𝕄} {k : PUnit → Prog (TpuEff nD τ sig (Elt F) Λ₀ .tc) α}
    (h : off = ![b.val, 0, 0]) :
    own3 (F := F) c M b fullShare V ⊢ iprop((own3 (F := F) c M b fullShare w -∗ run c (k ⟨⟩) Q)
      -∗ run c (.op (.store M (Rect.unit (s := S2x128x512) off S1x128x512.size inb) w Finset.univ hx hm) k) Q) := by
  subst h
  unfold own3 owns
  iintro ⟨%f, -, H⟩ Hk
  iapply (wp_store 𝒱₀ (c : Thread nD τ) none Set.univ (m := M) (r := r3 b) (Mk := Finset.univ) (S := (slot3 M b).view.set) (f := f) (Finset.Subset.refl _)) $$ H
  iintro H
  iapply Hk
  iexists (slot3 M b).view.write (Elt F) f w Finset.univ
  isplitr; · ipureintro; exact View.read_write_univ _ _
  iexact H

/-- A load of a whole matrix. -/
theorem loadM {s : Shape} {e : EltTy} (hs : s.rank = 2 := by rfl) (M : Memref sig .tc .vmem s e) {X : s.Idx → Elt F e} {off : Fin s.rank → ℕ}
    {inb : ∀ a, off a + s.size a ≤ s.size a} {hl} {α : Type} {Q : α → sProp 𝕄} {k : (s.Idx → Elt F e) → Prog (TpuEff nD τ sig (Elt F) Λ₀ .tc) α}
    (h : off = fun _ => 0) :
    (owns (Ix := Unit) (Name := ℕ) (U := UU) (Lvl := ℕ) (c : Thread nD τ) M fullShare X : sProp 𝕄)
      ⊢ iprop((owns (Ix := Unit) (Name := ℕ) (U := UU) (Lvl := ℕ) (c : Thread nD τ) M fullShare X -∗ run c (k X) Q)
        -∗ run c (.op (.load M (Rect.unit (s := s) off s.size inb).toLoadRect hl) k) Q) := by
  subst h
  unfold owns
  iintro ⟨%f, %hf, H⟩ Hk
  subst hf
  have hr : M.view.readAt (Elt F) (Rect.unit (s := s) (fun _ => 0) s.size inb).toLoadRect f = M.view.read (Elt F) f := by
    funext j
    show M.view.read (Elt F) f ((Rect.unit (s := s) (fun _ => 0) s.size inb).emb j) = M.view.read (Elt F) f j
    congr 1
    funext a
    exact Fin.ext (by show 0 + 1 * (j a).val = (j a).val; omega)
  iapply (wp_load 𝒱₀ (c : Thread nD τ) none Set.univ (m := M) (View.setOn_subset_set _ _)) $$ H
  iintro H
  rw [hr]
  iapply Hk
  iexists f
  isplitr; · ipureintro; rfl
  iexact H

/-! ## The barrier -/

variable (m : (ℓ : Loc nD τ sig) → Buf (Elt F) ℓ) (ρ : Dev nD → PrngReg) (K : Dev nD × Cl → ℕ)

/-- A barrier signal: the landing slots for the peer go with it. -/
theorem signal_bar (o : Fin 3) {n : Dev nD} (hn : n = peer c o) {k' : ℕ} (hk : k' = 1) {O : CellTallies nD τ sig Unit}
    {α : Type} {Q : α → sProp 𝕄} {k : PUnit → Prog (TpuEff nD τ sig (Elt F) Λ₀ .tc) α} :
    iprop(ctx (F := F) m ρ K ∗ ow (F := F) c (O + tallyAt (cell (peer c o) none) () 1) ∗ dutyTok ER (cell (peer c o) none) 0 c ∗ barPay (F := F) (peer c o) c)
      ⊢ iprop((ow (F := F) c O -∗ run c (k ⟨⟩) Q) -∗ run c (.op (.semSignal (n, .tc) barS k') k) Q) := by
  subst hn hk
  unfold ow
  iintro ⟨#HC, ⟨%W, HO⟩, Ht, Hp⟩ Hk
  ihave HI := (ctx_inv m ρ K (peer c o) none) $$ HC
  ihave HR := (ctx_reached m ρ K (peer c o) none) $$ HC
  iapply (Rounds.wp_signal 𝒱₀ ER (Rd m ρ) (c : Thread nD τ) none (dst := (peer c o : Thread nD τ)) (sem := barS) (κ := K (peer c o, none))
      (d := c) (r := 0) (bar_mem m ρ c o) (amount_cell m ρ (peer c o) none c) () O rfl (W := W)) $$ [HI HO Ht Hp HR]
  · isplitl [HI]; · iexact HI
    isplitl [HO]; · iexact HO
    isplitl [Ht]; · iexact Ht
    isplitl [Hp]
    · iapply (show barPay (F := F) (peer c o) c ⊢ (Rd m ρ).payload ((peer c o : Thread nD τ), .reg barS) 0 c from Entails.of_eq (payload_cell m ρ (peer c o) none c).symm)
      iexact Hp
    iexact HR
  iintro HO
  iapply Hk
  iexists W; iexact HO

/-- A wait for all of a cell: what was expected comes with it, and the cell is closed. -/
theorem wait_cell (kk : Cl) {k' : ℕ} {P : sProp 𝕄} {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (csem kk) k' K)
    (hk : k' = (Rd (F := F) m ρ).expect (cell c kk) 0)
    (hP : bigSep ((Rd (F := F) m ρ).duties (cell c kk) 0 \ ∅) (fun d => (Rd (F := F) m ρ).payload (cell c kk) 0 d) = P)
    (n : ℕ) (hl : ∀ t ∈ sends.drop n, lvK (some kk) < 2 + t.1.val)
    {α : Type} {Q : α → sProp 𝕄} {k : PUnit → Prog (TpuEff nD τ sig (Elt F) Λ₀ .tc) α} :
    iprop(ctx (F := F) m ρ K ∗ cred (tallyAt (cell c kk) () k') ∗ atPos ER (cell c kk) 0 ∅ 0 ∗ ow (F := F) c (owd c n))
      ⊢ iprop(((ow (F := F) c (owd c n) ∗ semVal (cell c kk) 0 ∗ P) -∗ run c (k ⟨⟩) Q) -∗ run c (.op w k) Q) := by
  unfold ow
  iintro ⟨#HC, Hc, Ha, ⟨%W, HO⟩⟩ Hk
  ihave #HI := (ctx_inv m ρ K c kk) $$ HC
  ihave #HL := (ctx_lev m ρ K) $$ HC
  iapply (Rounds.wp_wait_rest_token 𝒱₀ ER (Rd m ρ) (c : Thread nD τ) none (sm := csem kk) (κ := K (c, kk)) hw (Set.mem_univ _) () (O := owd c n) (W := W) (R := 0) (m := 0) (T := ∅)
      (by rw [Nat.zero_add]; exact hk)) $$ [Hc HO Ha]
  · isplitr; · iexact HI
    isplitl [Hc]; · iexact Hc
    isplitl [HO]; · iexact HO
    isplitr; · iapply (mayWait_owd (F := F) c (csem kk) n (by rw [kindOf_csem]; exact hl)); iexact HL
    iexact Ha
  iintro ⟨HO, Ha, -, Hp⟩
  imod (Rounds.cell_close ER (Rd m ρ) (Set.mem_univ (K (c, kk))) (fun h => h) (R := 0 + 1) (duties_later m ρ (cell c kk))) $$ [Ha] with Hz
  · isplitr; · iexact HI
    iexact Ha
  iapply Hk
  isplitl [HO]; · iexists _; iexact HO
  isplitl [Hz]; · iexact Hz
  iapply (Entails.of_eq hP); iexact Hp

/-- The barrier's wait: the three peers' landing slots for this device. -/
theorem wait_bar {k' : ℕ} (hk : k' = 3) {α : Type} {Q : α → sProp 𝕄} {k : PUnit → Prog (TpuEff nD τ sig (Elt F) Λ₀ .tc) α} :
    iprop(ctx (F := F) m ρ K ∗ cred (tallyAt (cell c none) () 3) ∗ atPos ER (cell c none) 0 ∅ 0 ∗ ow (F := F) c (owd c 0))
      ⊢ iprop(((ow (F := F) c (owd c 0) ∗ semVal (cell c none) 0 ∗ barPay (F := F) c (peer c 0) ∗ barPay (F := F) c (peer c 1) ∗ barPay (F := F) c (peer c 2)) -∗ run c (k ⟨⟩) Q)
        -∗ run c (.op (.semWait barS k') k) Q) := by
  subst hk
  exact wait_cell m ρ K none (wpE_semWait_eq 𝒱₀ (c : Thread nD τ) none Set.univ) (expect_bar m ρ c).symm (rest_bar m ρ c) 0 (by decide)

/-! ## The transfers' waits -/

/-- What a receive cell's wait takes, and what a send cell's. -/
def rcvW (c : Dev nD) (p b : Fin 2) (o : Fin 3) : sProp 𝕄 :=
  iprop(cred (tallyAt (cell c (some (.inr (p, b, peer c o)))) () N) ∗ atPos ER (cell c (some (.inr (p, b, peer c o)))) 0 ∅ 0)
def sndW (c : Dev nD) (p b : Fin 2) (o : Fin 3) : sProp 𝕄 := cred (tallyAt (cell c (some (.inl (p, b, o)))) () N)

/-- The wait for what the peer at offset `o + 1` sends: the slot, filled. -/
theorem wait_rcv (p b : Fin 2) (o : Fin 3) (n : ℕ) (hl : ∀ t ∈ sends.drop n, 2 + p.val < 2 + t.1.val) {sem : DmaSem sig} (hsem : sem = rcvSem p b (peer c o))
    {s₁ s₂ : Shape} {e₁ e₂ : EltTy} {src : Memref sig .tc .vmem s₁ e₁} {dst : Memref sig .tc .vmem s₂ e₂} {hs hd} (hN : dst.view.dmaCredit = N)
    {α : Type} {Q : α → sProp 𝕄} {k : PUnit → Prog (TpuEff nD τ sig (Elt F) Λ₀ .tc) α} :
    iprop(ctx (F := F) m ρ K ∗ rcvW (F := F) c p b o ∗ ow (F := F) c (owd c n))
      ⊢ iprop(((ow (F := F) c (owd c n) ∗ semVal (cell c (some (.inr (p, b, peer c o)))) 0 ∗ rcvPay m ρ c p b (peer c o)) -∗ run c (k ⟨⟩) Q)
        -∗ run c (.op (.waitDma2 sem src dst hs hd) k) Q) := by
  subst hsem
  unfold rcvW
  iintro ⟨HC, ⟨Hc, Ha⟩, HO⟩
  iapply (wait_cell m ρ K (some (.inr (p, b, peer c o))) (k' := N) (by rw [← hN]; exact wpE_waitDma2_eq 𝒱₀ (c : Thread nD τ) none Set.univ)
    (expect_rcv m ρ c p b (peer c o) (peer_ne c o)).symm (rest_rcv m ρ c p b (peer c o) (peer_ne c o)) n hl)
  isplitl [HC]; · iexact HC
  isplitl [Hc]; · iexact Hc
  isplitl [Ha] <;> iassumption

/-- The wait for a send to complete: its share of the slot sent. -/
theorem wait_snd (p b : Fin 2) (o : Fin 3) {sem : DmaSem sig} (hsem : sem = sndSem p b o)
    {s₁ s₂ : Shape} {e₁ e₂ : EltTy} {src : Memref sig .tc .vmem s₁ e₁} {dst : Memref sig .tc .vmem s₂ e₂} {hs hd} (hN : dst.view.dmaCredit = N)
    {α : Type} {Q : α → sProp 𝕄} {k : PUnit → Prog (TpuEff nD τ sig (Elt F) Λ₀ .tc) α} :
    iprop(ctx (F := F) m ρ K ∗ sndW (F := F) c p b o ∗ atPos ER (cell c (some (.inl (p, b, o)))) 0 ∅ 0 ∗ ow (F := F) c (owd c 12))
      ⊢ iprop(((ow (F := F) c (owd c 12) ∗ semVal (cell c (some (.inl (p, b, o)))) 0 ∗ sndPay m ρ c p b o) -∗ run c (k ⟨⟩) Q)
        -∗ run c (.op (.waitDma2 sem src dst hs hd) k) Q) := by
  subst hsem
  exact wait_cell m ρ K (some (.inl (p, b, o))) (k' := N) (by rw [← hN]; exact wpE_waitDma2_eq 𝒱₀ (c : Thread nD τ) none Set.univ)
    (expect_snd m ρ c (p, b, o)).symm (rest_snd m ρ c (p, b, o)) 12 (fun t ht => absurd ht (List.not_mem_nil))

/-! ## The transfers -/

/-- The two duties a transfer pays, its landing slot on the peer, and its source. -/
def sndIn (c : Dev nD) (p b : Fin 2) (o : Fin 3) : sProp 𝕄 :=
  iprop((dutyTok ER (cell c (some (.inl (p, b, o)))) 0 c ∗ dutyTok ER (cell (peer c o) (some (.inr (p, b, c)))) 0 c)
    ∗ any4 (F := F) (peer c o) (match p with | 0 => gM | 1 => rM) b c ∗ sndPay m ρ c p b o)

/-- A transfer between two slots of one row block each. -/
theorem send_slots (p b : Fin 2) (o : Fin 3) {n : Dev nD} (hn : n = peer c o) {s₁ : Shape} {A : Memref sig .tc .vmem s₁ .bf16} {B : Memref sig .tc .vmem S1x1x128x512 .bf16}
    (hA : s₁.Squeezes S128x512) (hB : S1x1x128x512.Squeezes S128x512) {q : PosShare TreeShare} {VA : s₁.Idx → Elt F .bf16} {VB : S1x1x128x512.Idx → Elt F .bf16}
    {sS sR : DmaSem sig} (hS : sS = sndSem p b o) (hR : sR = rcvSem p b c) (hN : (B.squeeze S128x512 hB).view.dmaCredit = N)
    (hV : ∀ x : S128x512.Idx, VB (Shape.reshapeEquiv hB.numel_eq x) = VA (Shape.reshapeEquiv hA.numel_eq x))
    (hpS : sndPay m ρ c p b o = owns (Ix := Unit) (Name := ℕ) (U := UU) (Lvl := ℕ) (c : Thread nD τ) A q VA)
    (hpR : rcvPay m ρ (peer c o) p b c = owns (Ix := Unit) (Name := ℕ) (U := UU) (Lvl := ℕ) (peer c o : Thread nD τ) B fullShare VB)
    {hsc} {hsrc} {hdst} {hsem} {O : CellTallies nD τ sig Unit} {α : Type} {Q : α → sProp 𝕄} {k : PUnit → Prog (TpuEff nD τ sig (Elt F) Λ₀ .tc) α} :
    iprop(ctx (F := F) m ρ K ∗ ow (F := F) c (O + tallyAt (cell (peer c o) (some (.inr (p, b, c)))) () N)
        ∗ (dutyTok ER (cell c (some (.inl (p, b, o)))) 0 c ∗ dutyTok ER (cell (peer c o) (some (.inr (p, b, c)))) 0 c)
        ∗ (∃ V, owns (Ix := Unit) (Name := ℕ) (U := UU) (Lvl := ℕ) (peer c o : Thread nD τ) B fullShare V) ∗ sndPay m ρ c p b o)
      ⊢ iprop(((sndW (F := F) c p b o ∗ ow (F := F) c O) -∗ run c (k ⟨⟩) Q)
        -∗ run c (.op (.enqueueDma (A.squeeze S128x512 hA) (.remote (Dev.tc n : Thread nD τ) (B.squeeze S128x512 hB) (.dma sS) hsc) (.dma sR) hsrc hdst hsem) k) Q) := by
  subst hn hS hR
  unfold ow sndW
  rw [hpS]
  iintro ⟨#HC, ⟨%W, HO⟩, ⟨HtS, HtR⟩, ⟨%V, HB⟩, HA⟩ Hk
  unfold owns
  icases HB with ⟨%fd, -, HB⟩
  icases HA with ⟨%fs, %hfs, HA⟩
  ihave #HIS := (ctx_inv m ρ K c (some (.inl (p, b, o)))) $$ HC
  ihave #HIR := (ctx_inv m ρ K (peer c o) (some (.inr (p, b, c)))) $$ HC
  ihave #HRS := (ctx_reached m ρ K c (some (.inl (p, b, o)))) $$ HC
  ihave #HRR := (ctx_reached m ρ K (peer c o) (some (.inr (p, b, c)))) $$ HC
  have sA : (A.squeeze S128x512 hA).view.set = A.view.set := View.set_reshape A.view hA.numel_eq
  have sB : (B.squeeze S128x512 hB).view.set = B.view.set := View.set_reshape B.view hB.numel_eq
  iapply (Rounds.wp_send_pointsTo 𝒱₀ ER (Rd m ρ) (c : Thread nD τ) none (c' := (peer c o : Thread nD τ)) (κ₁ := K (c, some (.inl (p, b, o)))) (κ₂ := K (peer c o, some (.inr (p, b, c))))
    (src := A.squeeze S128x512 hA) (dst := B.squeeze S128x512 hB) (sS := .dma (sndSem p b o)) (sem := .dma (rcvSem p b c)) (q := q) (fs := fs) (fd := fd)
    (r₁ := 0) (r₂ := 0) (d₁ := c) (d₂ := c) (snd_mem m ρ c (p, b, o)) (rcv_mem m ρ c p b o)
    () () N hN (amount_cell m ρ c (some (.inl (p, b, o))) c) (amount_cell m ρ (peer c o) (some (.inr (p, b, c))) c) O rfl (W := W)
    (by
      refine BIBase.Entails.trans ?_ (Entails.of_eq ((payload_cell m ρ c (some (.inl (p, b, o))) c).trans hpS).symm)
      exact owns_squeeze c A hA q fs VA (by rw [← hfs]; rfl))
    (by
      refine BIBase.Entails.trans ?_ (Entails.of_eq ((payload_cell m ρ (peer c o) (some (.inr (p, b, c))) c).trans hpR).symm)
      refine owns_squeeze (peer c o) B hB fullShare _ VB ?_
      rw [View.read_write_univ]
      funext x
      rw [hV x, ← hfs]; rfl)) $$ [HB HA HO HtS HtR]
  · isplitr; · iexact HIS
    isplitr; · iexact HIR
    isplitl [HA]; · rw [sA]; iexact HA
    isplitl [HB]; · rw [sB]; iexact HB
    isplitl [HO]; · iexact HO
    isplitl [HtS]; · iexact HtS
    isplitr; · iexact HRS
    isplitl [HtR]; · iexact HtR
    iexact HRR
  iintro ⟨Hc, HO⟩
  iapply Hk
  isplitl [Hc]; · iexact Hc
  iexists W; iexact HO

/-- The source of a gather's transfer, a batch's slot of `xsend`, against its landing slot: the same row block. -/
theorem xf_eq (b : Fin 2) (x : S128x512.Idx) :
    XF m ρ b c (Shape.reshapeEquiv squeezes_S1x1x128x512_S128x512.numel_eq x) = XS m ρ c b (Shape.reshapeEquiv squeezes_S1x128x512_S128x512.numel_eq x) := by
  show XS m ρ c b (Shape.reshapeEquiv _ (Shape.reshapeEquiv _ (Shape.reshapeEquiv _ x))) = _
  simp only [Shape.reshapeEquiv_reshapeEquiv]

/-- A transfer of the gather: a batch's rows to the peer's slot for this device. -/
theorem send_gather (b : Fin 2) (o : Fin 3) {oa : Fin 3 → ℕ} {ob : Fin 4 → ℕ} {ia : ∀ a, oa a + S1x128x512.size a ≤ S2x128x512.size a}
    {ib : ∀ a, ob a + S1x1x128x512.size a ≤ S2x4x128x512.size a} (hoa : oa = ![b.val, 0, 0]) (hob : ob = ![b.val, c.val, 0, 0])
    {n : Dev nD} (hn : n = peer c o) {sS sR : DmaSem sig} (hS : sS = sndSem 0 b o) (hR : sR = rcvSem 0 b c) (i : ℕ)
    (hi : owd c i = owd c (i + 1) + tallyAt (cell (peer c o) (some (.inr (0, b, c)))) () N)
    {h1 h2 hsc} {hsrc} {hdst} {hsem} {α : Type} {Q : α → sProp 𝕄} {k : PUnit → Prog (TpuEff nD τ sig (Elt F) Λ₀ .tc) α} :
    iprop(ctx (F := F) m ρ K ∗ ow (F := F) c (owd c i) ∗ sndIn m ρ c 0 b o)
      ⊢ iprop(((sndW (F := F) c 0 b o ∗ ow (F := F) c (owd c (i + 1))) -∗ run c (k ⟨⟩) Q)
        -∗ run c (.op (.enqueueDma ((sM.slice (Rect.unit (s := S2x128x512) oa S1x128x512.size ia) h1).squeeze S128x512 squeezes_S1x128x512_S128x512)
          (.remote (Dev.tc n : Thread nD τ) ((gM.slice (Rect.unit (s := S2x4x128x512) ob S1x1x128x512.size ib) h2).squeeze S128x512 squeezes_S1x1x128x512_S128x512) (.dma sS) hsc)
          (.dma sR) hsrc hdst hsem) k) Q) := by
  subst hoa hob
  unfold sndIn
  rw [hi]
  iintro ⟨HC, HO, HT, HB, HA⟩
  iapply (send_slots m ρ K 0 b o hn (A := slot3 sM b) (B := slot4 gM b c) squeezes_S1x128x512_S128x512 squeezes_S1x1x128x512_S128x512 (q := sq o)
    (VA := XS m ρ c b) (VB := XF m ρ b c) hS hR rfl (xf_eq m ρ b) rfl rfl)
  isplitl [HC]; · iexact HC
  isplitl [HO]; · iexact HO
  isplitl [HT]; · iexact HT
  isplitl [HB]
  · iapply (show any4 (F := F) (peer c o) gM b c ⊢ iprop(∃ V, owns (Ix := Unit) (Name := ℕ) (U := UU) (Lvl := ℕ) (peer c o : Thread nD τ) (slot4 gM b c) fullShare V)
      from BI.Entails.refl _)
    iexact HB
  iexact HA

/-- A transfer of the scatter: the partial product of the peer's row block to the peer's slot for this device. -/
theorem send_scatter (b : Fin 2) (o : Fin 3) {oa ob : Fin 4 → ℕ} {ia : ∀ a, oa a + S1x1x128x512.size a ≤ S2x4x128x512.size a}
    {ib : ∀ a, ob a + S1x1x128x512.size a ≤ S2x4x128x512.size a} (hoa : oa = ![b.val, (peer c o).val, 0, 0]) (hob : ob = ![b.val, c.val, 0, 0])
    {n : Dev nD} (hn : n = peer c o) {sS sR : DmaSem sig} (hS : sS = sndSem 1 b o) (hR : sR = rcvSem 1 b c) (i : ℕ)
    (hi : owd c i = owd c (i + 1) + tallyAt (cell (peer c o) (some (.inr (1, b, c)))) () N)
    {h1 h2 hsc} {hsrc} {hdst} {hsem} {α : Type} {Q : α → sProp 𝕄} {k : PUnit → Prog (TpuEff nD τ sig (Elt F) Λ₀ .tc) α} :
    iprop(ctx (F := F) m ρ K ∗ ow (F := F) c (owd c i) ∗ sndIn m ρ c 1 b o)
      ⊢ iprop(((sndW (F := F) c 1 b o ∗ ow (F := F) c (owd c (i + 1))) -∗ run c (k ⟨⟩) Q)
        -∗ run c (.op (.enqueueDma ((pM.slice (Rect.unit (s := S2x4x128x512) oa S1x1x128x512.size ia) h1).squeeze S128x512 squeezes_S1x1x128x512_S128x512)
          (.remote (Dev.tc n : Thread nD τ) ((rM.slice (Rect.unit (s := S2x4x128x512) ob S1x1x128x512.size ib) h2).squeeze S128x512 squeezes_S1x1x128x512_S128x512) (.dma sS) hsc)
          (.dma sR) hsrc hdst hsem) k) Q) := by
  subst hoa hob
  unfold sndIn
  rw [hi]
  iintro ⟨HC, HO, HT, HB, HA⟩
  iapply (send_slots m ρ K 1 b o hn (A := slot4 pM b (peer c o)) (B := slot4 rM b c) squeezes_S1x1x128x512_S128x512 squeezes_S1x1x128x512_S128x512 (q := fullShare)
    (VA := PO m ρ c b (peer c o)) (VB := RB m ρ (peer c o) b c) hS hR rfl (fun _ => rfl) rfl rfl)
  isplitl [HC]; · iexact HC
  isplitl [HO]; · iexact HO
  isplitl [HT]; · iexact HT
  isplitl [HB]
  · iapply (show any4 (F := F) (peer c o) rM b c ⊢ iprop(∃ V, owns (Ix := Unit) (Name := ℕ) (U := UU) (Lvl := ℕ) (peer c o : Thread nD τ) (slot4 rM b c) fullShare V)
      from BI.Entails.refl _)
    iexact HB
  iexact HA

/-! ## A step taken on one device only -/

/-- `A` before device `c`'s turn among the first `n`, `B` after it. -/
def upto (c : Dev nD) (n : ℕ) (A B : sProp 𝕄) : sProp 𝕄 := if c.val < n then B else A

/-- Before the first place nothing is stored, -/
theorem upto_zero (A B : sProp 𝕄) : upto c 0 A B = A := if_neg (Nat.not_lt_zero _)
/-- and after the fourth the store has been done. -/
theorem upto_four (A B : sProp 𝕄) : upto c 4 A B = B := if_pos c.isLt

/-- A branch that device `j` alone takes, and what follows it. -/
theorem on_device (n : ℕ) (j : Fin 4) (hn : n = j.val) {cond : Prop} [Decidable cond] (hc : cond ↔ c = j) {A B X : sProp 𝕄} {α : Type} {Q : α → sProp 𝕄}
    {p r : Prog (TpuEff nD τ sig (Elt F) Λ₀ .tc) α}
    (hp : c = j → iprop(X ∗ A) ⊢ iprop(((X ∗ B) -∗ run c r Q) -∗ run c p Q)) :
    iprop(X ∗ upto c n A B) ⊢ iprop(((X ∗ upto c (n + 1) A B) -∗ run c r Q) -∗ run c (if h : cond then p else r) Q) := by
  subst hn
  iintro HXA Hk
  by_cases h : cond
  · have hj := hc.mp h
    rw [dif_pos h]
    unfold upto
    rw [if_neg (by rw [hj]; exact Nat.lt_irrefl _), if_pos (by rw [hj]; exact Nat.lt_succ_self _)]
    iapply (hp hj) $$ HXA
    iexact Hk
  · rw [dif_neg h]
    have hj : c ≠ j := fun e => h (hc.mpr e)
    have hv : c.val ≠ j.val := fun e => hj (Fin.ext e)
    have e : upto c (j.val + 1) A B = upto c j.val A B := by
      unfold upto
      by_cases hl : c.val < j.val
      · rw [if_pos hl, if_pos (by omega)]
      · rw [if_neg hl, if_neg (by omega)]
    rw [e]
    iapply Hk; iexact HXA

/-- The device's copy of its own rows to its own slots of the gather buffer. -/
theorem copy_rows (j : Fin 4) {o₀ o₁ : Fin 3 → ℕ} {p₀ p₁ : Fin 4 → ℕ} (ho₀ : o₀ = ![(0 : Fin 2).val, 0, 0]) (ho₁ : o₁ = ![(1 : Fin 2).val, 0, 0])
    (hp₀ : p₀ = ![(0 : Fin 2).val, j.val, 0, 0]) (hp₁ : p₁ = ![(1 : Fin 2).val, j.val, 0, 0])
    {f₀ f₁ : FVec F S1x128x512 .bf16 → FVec F S1x1x128x512 .bf16} (hf₀ : f₀ = k0_pay4) (hf₁ : f₁ = k0_pay4)
    {i₀ i₁ k₀ k₁ hl₀ hl₁ hl₂ hl₃ hx₀ hm₀ hx₁ hm₁} {α : Type} {Q : α → sProp 𝕄} {r : Prog (TpuEff nD τ sig (Elt F) Λ₀ .tc) α} (hj : c = j) :
    iprop((own3 (F := F) c sM 0 kq (XS m ρ c 0) ∗ own3 (F := F) c sM 1 kq (XS m ρ c 1)) ∗ any4 (F := F) c gM 0 c ∗ any4 (F := F) c gM 1 c)
      ⊢ iprop((((own3 (F := F) c sM 0 kq (XS m ρ c 0) ∗ own3 (F := F) c sM 1 kq (XS m ρ c 1)) ∗ own4 (F := F) c gM 0 c (XF m ρ 0 c) ∗ own4 (F := F) c gM 1 c (XF m ρ 1 c)) -∗ run c r Q)
        -∗ run c (.op (.load sM (Rect.unit (s := S2x128x512) o₀ S1x128x512.size i₀).toLoadRect hl₀) fun v : S1x128x512.Idx → Elt F .bf16 =>
            .op (.load gM (Rect.unit (s := S2x4x128x512) p₀ S1x1x128x512.size k₀).toLoadRect hl₁) fun _ =>
            .op (.store gM (Rect.unit (s := S2x4x128x512) p₀ S1x1x128x512.size k₀) (f₀ v) Finset.univ hx₀ hm₀) fun _ =>
            .op (.load sM (Rect.unit (s := S2x128x512) o₁ S1x128x512.size i₁).toLoadRect hl₂) fun v : S1x128x512.Idx → Elt F .bf16 =>
            .op (.load gM (Rect.unit (s := S2x4x128x512) p₁ S1x1x128x512.size k₁).toLoadRect hl₃) fun _ =>
            .op (.store gM (Rect.unit (s := S2x4x128x512) p₁ S1x1x128x512.size k₁) (f₁ v) Finset.univ hx₁ hm₁) fun _ => r) Q) := by
  subst hj hf₀ hf₁
  unfold any4
  iintro ⟨⟨H0, H1⟩, ⟨%V0, G0⟩, ⟨%V1, G1⟩⟩ Hk
  iapply (load3 sM 0 ho₀) $$ H0
  iintro H0
  iapply (load4 gM 0 c hp₀) $$ G0
  iintro G0
  iapply (store4 gM 0 c hp₀) $$ G0
  iintro G0
  iapply (load3 sM 1 ho₁) $$ H1
  iintro H1
  iapply (load4 gM 1 c hp₁) $$ G1
  iintro G1
  iapply (store4 gM 1 c hp₁) $$ G1
  iintro G1
  iapply Hk
  isplitl [H0 H1]
  · isplitl [H0]; · iexact H0
    iexact H1
  isplitl [G0]; · iexact G0
  iexact G1

/-- The device's copy of its own partial product to its own slot of the receive buffer. -/
theorem copy_part (b : Fin 2) (j : Fin 4) {p₀ p₁ : Fin 4 → ℕ} (hp₀ : p₀ = ![b.val, j.val, 0, 0]) (hp₁ : p₁ = ![b.val, j.val, 0, 0])
    {f : FVec F S1x1x128x512 .bf16 → FVec F S1x1x128x512 .bf16} (hf : f = k0_pay40)
    {k₀ k₁ hl₀ hl₁ hx₀ hm₀} {α : Type} {Q : α → sProp 𝕄} {r : Prog (TpuEff nD τ sig (Elt F) Λ₀ .tc) α} (hj : c = j) :
    iprop(own4 (F := F) c pM b c (PO m ρ c b c) ∗ any4 (F := F) c rM b c)
      ⊢ iprop(((own4 (F := F) c pM b c (PO m ρ c b c) ∗ own4 (F := F) c rM b c (RB m ρ c b c)) -∗ run c r Q)
        -∗ run c (.op (.load pM (Rect.unit (s := S2x4x128x512) p₀ S1x1x128x512.size k₀).toLoadRect hl₀) fun v : S1x1x128x512.Idx → Elt F .bf16 =>
            .op (.load rM (Rect.unit (s := S2x4x128x512) p₁ S1x1x128x512.size k₁).toLoadRect hl₁) fun _ =>
            .op (.store rM (Rect.unit (s := S2x4x128x512) p₁ S1x1x128x512.size k₁) (f v) Finset.univ hx₀ hm₀) fun _ => r) Q) := by
  subst hj hf
  have e : k0_pay40 (PO m ρ c b c) = RB m ρ c b c := funext fun x => by
    show PO m ρ c b c (Shape.reshapeEquiv _ (Shape.reshapeEquiv _ x)) = PO m ρ c b c x
    simp only [Shape.reshapeEquiv_reshapeEquiv, Shape.reshapeEquiv_self]
  unfold any4
  iintro ⟨H0, ⟨%V0, G0⟩⟩ Hk
  iapply (load4 pM b c hp₀) $$ H0
  iintro H0
  iapply (load4 rM b c hp₁) $$ G0
  iintro G0
  iapply (store4 rM b c hp₁) $$ G0
  iintro G0
  iapply Hk
  isplitl [H0]; · iexact H0
  rw [e]
  iexact G0

end Cert.KernelIdeal.Prot

end
-- ==== Proof.KernelIdeal.Parts.lean ====
/-
  The kernel body in the pieces it is cut into: for each, what it needs, what it leaves and what it returns.
-/
module

public import proofs.«01_k».proof.Proof.KernelIdeal.Steps

@[expose] public section

noncomputable section

namespace Cert.KernelIdeal.Prot

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A piece of the body at the kernel's buffers and semaphores. -/
abbrev args {β : Type 1} (f : (a0 : Memref sig .tc .vmem S2x128x512 .f32) → a0.IsWhole → (a1 : Memref sig .tc .vmem S512x256 .f32) → a1.IsWhole
    → (a2 : Memref sig .tc .vmem S512x256 .f32) → a2.IsWhole → (a3 : Memref sig .tc .vmem S512x256 .f32) → a3.IsWhole
    → (a4 : Memref sig .tc .vmem S256x512 .f32) → a4.IsWhole → (a5 : Memref sig .tc .vmem S2x128x512 .f32) → a5.IsWhole
    → (a6 : Memref sig .tc .vmem S2x128x512 .bf16) → a6.IsWhole → (a7 : Memref sig .tc .vmem S2x4x128x512 .bf16) → a7.IsWhole
    → (a8 : Memref sig .tc .vmem S2x4x128x512 .bf16) → a8.IsWhole → (a9 : Memref sig .tc .vmem S2x4x128x512 .bf16) → a9.IsWhole
    → DmaSems sig S6 → DmaSems sig S2x4 → DmaSems sig S6 → DmaSems sig S2x4 → β) : β :=
  f xM (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) oM (Memref.isWhole_whole _)
    sM (Memref.isWhole_whole _) gM (Memref.isWhole_whole _) pM (Memref.isWhole_whole _) rM (Memref.isWhole_whole _)
    cc0_scratch4 cc0_scratch5 cc0_scratch6 cc0_scratch7

/-- The device's number as the program computes it. -/
abbrev num (c : Dev nD) : BitVec 32 := Scalar.remsi (Scalar.divsi (Dev.word c) 1#32) 4#32

variable {c : Dev nD} (m : (ℓ : Loc nD τ sig) → Buf (Elt F) ℓ) (ρ : Dev nD → PrngReg) (K : Dev nD × Cl → ℕ)

/-- What a barrier signal takes: the duty it pays and the landing slots handed over. -/
def barOut (c : Dev nD) (o : Fin 3) : sProp 𝕄 := iprop(dutyTok ER (cell (peer c o) none) 0 c ∗ barPay (F := F) (peer c o) c)

/-- The rows of batch `b` of the device's argument. -/
abbrev xrow (c : Dev nD) (b : Fin 2) : S1x128x512.Idx → Elt F .f32 := fun j => xstg m ρ c ((r3 b).emb j)

/-- The barrier, and the first batch's rows laid out for sending. -/
theorem part1 {V : S1x128x512.Idx → Elt F .bf16} {Q : (Σ' (d0 : Dev nD) (v2 : BitVec 32), FVec F S128x512 .bf16) → sProp 𝕄} :
    iprop(ctx (F := F) m ρ K ∗ ow (F := F) c (O₀ c) ∗ (barOut (F := F) c 0 ∗ barOut (F := F) c 1 ∗ barOut (F := F) c 2)
        ∗ (cred (tallyAt (cell c none) () 3) ∗ atPos ER (cell c none) 0 ∅ 0)
        ∗ own3 (F := F) c xM 0 fullShare (xrow m ρ c 0) ∗ own3 (F := F) c xM 1 fullShare (xrow m ρ c 1) ∗ own3 (F := F) c sM 0 fullShare V)
      ⊢ iprop(((ow (F := F) c (owd c 0) ∗ (semVal (cell c none) 0 ∗ barPay (F := F) c (peer c 0) ∗ barPay (F := F) c (peer c 1) ∗ barPay (F := F) c (peer c 2))
          ∗ own3 (F := F) c xM 0 fullShare (xrow m ρ c 0) ∗ own3 (F := F) c xM 1 fullShare (xrow m ρ c 1) ∗ own3 (F := F) c sM 0 fullShare (XS m ρ c 0))
            -∗ Q ⟨c, num c, k0_pay2 (xrow m ρ c 1)⟩)
        -∗ run c (args (k0_part1 (F := F))) Q) := by
  rw [k0_part1_eq_skeleton]
  unfold args k0_part1_skel barOut
  simp only [semSignalWord, semWaitWord, Prog.lift, Prog.bind_op, Prog.bind_ret, Prog.pure_eq_ret, wp_deviceId]
  iintro ⟨#HC, HO, ⟨⟨Ht0, Hp0⟩, ⟨Ht1, Hp1⟩, ⟨Ht2, Hp2⟩⟩, ⟨Hc, Ha⟩, Hx0, Hx1, Hs⟩ Hk
  iapply (signal_bar m ρ K (c := c) 0 (by revert c; decide) rfl (O := owl ([1, 2].map (barDue c) ++ sends.map (due c)))) $$ [HO Ht0 Hp0]
  · isplitr; · iexact HC
    isplitl [HO]; · iexact HO
    isplitl [Ht0] <;> iassumption
  iintro HO
  iapply (signal_bar m ρ K (c := c) 1 (by revert c; decide) rfl (O := owl ([2].map (barDue c) ++ sends.map (due c)))) $$ [HO Ht1 Hp1]
  · isplitr; · iexact HC
    isplitl [HO]; · iexact HO
    isplitl [Ht1] <;> iassumption
  iintro HO
  iapply (signal_bar m ρ K (c := c) 2 (by revert c; decide) rfl (O := owd c 0)) $$ [HO Ht2 Hp2]
  · isplitr; · iexact HC
    isplitl [HO]; · iexact HO
    isplitl [Ht2] <;> iassumption
  iintro HO
  iapply (wait_bar m ρ K (c := c) rfl) $$ [HO Hc Ha]
  · isplitr; · iexact HC
    isplitl [Hc]; · iexact Hc
    isplitl [Ha] <;> iassumption
  iintro ⟨HO, Hb⟩
  iapply (load3 xM 0 rfl) $$ Hx0
  iintro Hx0
  iapply (load3 sM 0 rfl) $$ Hs
  iintro Hs
  iapply (store3 sM 0 (w := XS m ρ c 0) rfl) $$ Hs
  iintro Hs
  iapply (load3 xM 1 rfl) $$ Hx1
  iintro Hx1
  unfold run
  rw [wp_ret]
  imodintro
  iapply Hk
  isplitl [HO]; · iexact HO
  isplitl [Hb]; · iexact Hb
  isplitl [Hx0]; · iexact Hx0
  isplitl [Hx1]; · iexact Hx1
  iexact Hs

/-- The second batch's rows laid out for sending; the first batch sent to the first two peers. -/
theorem part2 {V : S1x128x512.Idx → Elt F .bf16} {Q : BitVec 32 → sProp 𝕄} :
    iprop(ctx (F := F) m ρ K ∗ ow (F := F) c (owd c 0) ∗ own3 (F := F) c sM 1 fullShare V ∗ sndIn m ρ c 0 0 0 ∗ sndIn m ρ c 0 0 1)
      ⊢ iprop((∀ v, (ow (F := F) c (owd c 2) ∗ own3 (F := F) c sM 1 fullShare (XS m ρ c 1) ∗ sndW (F := F) c 0 0 0 ∗ sndW (F := F) c 0 0 1) -∗ Q v)
        -∗ run c (args (k0_part2 (F := F)) c (num c) (k0_pay2 (xrow m ρ c 1))) Q) := by
  rw [k0_part2_eq_skeleton]
  unfold args k0_part2_skel
  simp only [Prog.lift, Prog.bind_op, Prog.bind_ret, Prog.pure_eq_ret]
  iintro ⟨#HC, HO, Hs, H0, H1⟩ Hk
  iapply (load3 sM 1 rfl) $$ Hs
  iintro Hs
  iapply (store3 sM 1 (w := XS m ρ c 1) rfl) $$ Hs
  iintro Hs
  iapply (send_gather m ρ K (c := c) 0 0 rfl (k0_off2_eq c) (by revert c; decide) (by rfl) (by revert c; decide) 0 rfl) $$ [HO H0]
  · isplitr; · iexact HC
    isplitl [HO] <;> iassumption
  iintro ⟨H0, HO⟩
  iapply (send_gather m ρ K (c := c) 0 1 rfl (k0_off2_eq c) (by revert c; decide) (by rfl) (by revert c; decide) 1 rfl) $$ [HO H1]
  · isplitr; · iexact HC
    isplitl [HO] <;> iassumption
  iintro ⟨H1, HO⟩
  unfold run
  rw [wp_ret]
  imodintro
  iapply Hk
  isplitl [HO]; · iexact HO
  isplitl [Hs]; · iexact Hs
  isplitl [H0] <;> iassumption

/-- The first batch sent to the third peer, the second to the first; -/
theorem part3 {v : BitVec 32} {Q : PUnit → sProp 𝕄} :
    iprop(ctx (F := F) m ρ K ∗ ow (F := F) c (owd c 2) ∗ sndIn m ρ c 0 0 2 ∗ sndIn m ρ c 0 1 0)
      ⊢ iprop(((ow (F := F) c (owd c 4) ∗ sndW (F := F) c 0 0 2 ∗ sndW (F := F) c 0 1 0) -∗ Q ⟨⟩)
        -∗ run c (args (k0_part3 (F := F)) c (num c) v) Q) := by
  rw [k0_part3_eq_skeleton]
  unfold args k0_part3_skel
  simp only [Prog.lift, Prog.bind_op, Prog.bind_ret, Prog.pure_eq_ret]
  iintro ⟨#HC, HO, H0, H1⟩ Hk
  iapply (send_gather m ρ K (c := c) 0 2 rfl (k0_off2_eq c) (by revert c; decide) (by rfl) (by revert c; decide) 2 rfl) $$ [HO H0]
  · isplitr; · iexact HC
    isplitl [HO] <;> iassumption
  iintro ⟨H0, HO⟩
  iapply (send_gather m ρ K (c := c) 1 0 rfl (k0_off4_eq c) (by revert c; decide) (by rfl) (by revert c; decide) 3 rfl) $$ [HO H1]
  · isplitr; · iexact HC
    isplitl [HO] <;> iassumption
  iintro ⟨H1, HO⟩
  unfold run
  rw [wp_ret]
  imodintro
  iapply Hk
  isplitl [HO]; · iexact HO
  isplitl [H0] <;> iassumption

/-- The program's test of whose turn it is. -/
theorem turn (c : Dev nD) (n : ℕ) (j : Fin 4) (h : n = j.val) :
    Scalar.cmpi .ne (Scalar.extui (Scalar.cmpi .eq (num c) (BitVec.ofNat 32 n)) : BitVec 32) 0#32 = 1#1 ↔ c = j := by
  subst h; revert c j; decide

/-- What the device's copy of its own rows reads. -/
abbrev kept (c : Dev nD) : sProp 𝕄 := iprop(own3 (F := F) c sM 0 kq (XS m ρ c 0) ∗ own3 (F := F) c sM 1 kq (XS m ρ c 1))
/-- The device's own slots of a buffer, at whatever contents; filled, in the gather buffer; filled, in the receive buffer. -/
abbrev mineG (c : Dev nD) : sProp 𝕄 := iprop(any4 (F := F) c gM 0 c ∗ any4 (F := F) c gM 1 c)
abbrev fullG (c : Dev nD) : sProp 𝕄 := iprop(own4 (F := F) c gM 0 c (XF m ρ 0 c) ∗ own4 (F := F) c gM 1 c (XF m ρ 1 c))

/-- the second batch sent to the other two; the device's own rows copied to its own slots. -/
theorem part4 {Q : PUnit → sProp 𝕄} :
    iprop(ctx (F := F) m ρ K ∗ ow (F := F) c (owd c 4) ∗ sndIn m ρ c 0 1 1 ∗ sndIn m ρ c 0 1 2 ∗ kept m ρ c ∗ mineG (F := F) c)
      ⊢ iprop(((ow (F := F) c (owd c 6) ∗ sndW (F := F) c 0 1 1 ∗ sndW (F := F) c 0 1 2 ∗ kept m ρ c ∗ fullG m ρ c) -∗ Q ⟨⟩)
        -∗ run c (args (k0_part4 (F := F)) c (num c)) Q) := by
  rw [k0_part4_eq_skeleton]
  unfold args k0_part4_skel
  simp only [Prog.lift, Prog.bind_op, Prog.bind_ret, Prog.pure_eq_ret]
  iintro ⟨#HC, HO, H0, H1, HX⟩ Hk
  iapply (send_gather m ρ K (c := c) 1 1 rfl (k0_off4_eq c) (by revert c; decide) (by rfl) (by revert c; decide) 4 rfl) $$ [HO H0]
  · isplitr; · iexact HC
    isplitl [HO] <;> iassumption
  iintro ⟨H0, HO⟩
  iapply (send_gather m ρ K (c := c) 1 2 rfl (k0_off4_eq c) (by revert c; decide) (by rfl) (by revert c; decide) 5 rfl) $$ [HO H1]
  · isplitr; · iexact HC
    isplitl [HO] <;> iassumption
  iintro ⟨H1, HO⟩
  rw [← upto_zero (c := c) (mineG (F := F) c) (fullG m ρ c)]
  iapply (on_device (Q := Q) 0 0 rfl (turn c 0 0 rfl) (copy_rows (c := c) (Q := Q) m ρ 0 rfl rfl rfl rfl rfl rfl)) $$ HX
  iintro HX
  iapply (on_device (Q := Q) 1 1 rfl (turn c 1 1 rfl) (copy_rows (c := c) (Q := Q) m ρ 1 rfl rfl rfl rfl rfl rfl)) $$ HX
  iintro HX
  iapply (on_device (Q := Q) 2 2 rfl (turn c 2 2 rfl) (copy_rows (c := c) (Q := Q) m ρ 2 rfl rfl rfl rfl rfl rfl)) $$ HX
  iintro HX
  iapply (on_device (Q := Q) 3 3 rfl (turn c 3 3 rfl) (copy_rows (c := c) (Q := Q) m ρ 3 rfl rfl rfl rfl rfl rfl)) $$ HX
  iintro HX
  unfold run
  rw [wp_ret]
  imodintro
  iapply Hk
  isplitl [HO]; · iexact HO
  isplitl [H0]; · iexact H0
  isplitl [H1]; · iexact H1
  rw [← upto_four (c := c) (mineG (F := F) c) (fullG m ρ c)]
  iexact HX

end Cert.KernelIdeal.Prot

end
-- ==== Proof.KernelIdeal.Parts2.lean ====
/-
  The kernel body's pieces, continued: the attention of the first batch and the scatter of its partial product.
-/
module

public import proofs.«01_k».proof.Proof.KernelIdeal.Parts

@[expose] public section

noncomputable section

namespace Cert.KernelIdeal.Prot

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {c : Dev nD} (m : (ℓ : Loc nD τ sig) → Buf (Elt F) ℓ) (ρ : Dev nD → PrngReg) (K : Dev nD × Cl → ℕ)

/-- The four row blocks, this device's first. -/
theorem around (c : Dev nD) (Φ : Fin 4 → sProp 𝕄) : bigSep Finset.univ Φ = iprop(Φ c ∗ Φ (peer c 0) ∗ Φ (peer c 1) ∗ Φ (peer c 2)) :=
  bigSep_univ_eq_bigSepL [c, peer c 0, peer c 1, peer c 2] (by revert c; decide) (by revert c; decide) Φ

/-- The four devices are a device and its three peers. -/
theorem around_four (c : Dev nD) (Φ : Fin 4 → sProp 𝕄) :
    iprop(Φ c ∗ Φ (peer c 0) ∗ Φ (peer c 1) ∗ Φ (peer c 2)) = iprop(Φ 0 ∗ Φ 1 ∗ Φ 2 ∗ Φ 3) := (around c Φ).symm.trans (four Φ)

/-- The staged weights. -/
abbrev ownW (c : Dev nD) : sProp 𝕄 :=
  iprop(owns (Ix := Unit) (Name := ℕ) (U := UU) (Lvl := ℕ) (c : Thread nD τ) (Memref.whole cc0_stg1_0) fullShare (wqstg m ρ c)
    ∗ owns (Ix := Unit) (Name := ℕ) (U := UU) (Lvl := ℕ) (c : Thread nD τ) (Memref.whole cc0_stg2_0) fullShare (wkstg m ρ c)
    ∗ owns (Ix := Unit) (Name := ℕ) (U := UU) (Lvl := ℕ) (c : Thread nD τ) (Memref.whole cc0_stg3_0) fullShare (wvstg m ρ c)
    ∗ owns (Ix := Unit) (Name := ℕ) (U := UU) (Lvl := ℕ) (c : Thread nD τ) (Memref.whole cc0_stg4_0) fullShare (wostg m ρ c))

/-- The word the lane's parity is tested against. -/
abbrev two' : BitVec 32 := Scalar.select (Scalar.cmpi .eq 2#32 0#32) 1#32 2#32

/-- The offset zero. -/
theorem off00 : (![0, 0] : Fin 2 → ℕ) = fun _ => 0 := funext fun a => by fin_cases a <;> rfl

/-- The weights read and cast. -/
theorem part5 {Q : (Σ' (v114 : FVec F S512x256 .bf16) (v117 : FVec F S512x256 .bf16) (v120 : FVec F S512x256 .bf16) (v123 : FVec F S256x512 .bf16) (v125 : FVec F S512x256 .f32) (v142 : IVec S512x256 32) (v144 : BitVec 32) (v146 : IVec S512x256 32) (v148 : IVec S512x256 1) (v150 : IVec S512x256 1), BitVec 1) → sProp 𝕄} :
    ownW m ρ c
      ⊢ iprop((ownW m ρ c -∗ Q ⟨k0_pay12 (wqstg m ρ c), k0_pay13 (wkstg m ρ c), k0_pay14 (wvstg m ρ c), k0_pay15 (wostg m ρ c), k0_pay16, k0_pay17, two', k0_pay18, k0_pay19,
          k0_pay20, Scalar.cmpi .slt two' 0#32⟩)
        -∗ run c (args (k0_part5 (F := F))) Q) := by
  rw [k0_part5_eq_skeleton]
  unfold args k0_part5_skel
  simp only [Prog.lift, Prog.bind_op, Prog.bind_ret, Prog.pure_eq_ret]
  iintro ⟨H1, H2, H3, H4⟩ Hk
  iapply (loadM rfl (Memref.whole cc0_stg1_0) off00) $$ H1
  iintro H1
  iapply (loadM rfl (Memref.whole cc0_stg2_0) off00) $$ H2
  iintro H2
  iapply (loadM rfl (Memref.whole cc0_stg3_0) off00) $$ H3
  iintro H3
  iapply (loadM rfl (Memref.whole cc0_stg4_0) off00) $$ H4
  iintro H4
  unfold run
  rw [wp_ret]
  imodintro
  iapply Hk
  isplitl [H1]; · iexact H1
  isplitl [H2]; · iexact H2
  isplitl [H3]; · iexact H3
  iexact H4

/-- The angles' cosines and sines. -/
theorem part6 {Q : (Σ' (v168 : FVec F S512x256 .f32) (v169 : FVec F S512x256 .f32), IVec S512x256 1) → sProp 𝕄} :
    iprop(Q ⟨ropeA, ropeB, evenLane⟩)
      ⊢ run c (args (k0_part6 (F := F)) c (num c) k0_pay16 k0_pay17 two' k0_pay18 k0_pay19 k0_pay20 (Scalar.cmpi .slt two' 0#32)) Q := by
  rw [k0_part6_eq_skeleton]
  unfold args k0_part6_skel run ropeA ropeB evenLane
  simp only [Prog.pure_eq_ret]
  iintro HQ
  rw [wp_ret]
  imodintro
  iexact HQ

/-- The gathered rows of a batch. -/
abbrev rows (c : Dev nD) (b : Fin 2) : sProp 𝕄 :=
  iprop(own4 (F := F) c gM b 0 (XF m ρ b 0) ∗ own4 (F := F) c gM b 1 (XF m ρ b 1) ∗ own4 (F := F) c gM b 2 (XF m ρ b 2) ∗ own4 (F := F) c gM b 3 (XF m ρ b 3))
/-- What the waits for a batch's incoming transfers take, -/
abbrev waitsIn (c : Dev nD) (p b : Fin 2) : sProp 𝕄 := iprop(rcvW (F := F) c p b 0 ∗ rcvW (F := F) c p b 1 ∗ rcvW (F := F) c p b 2)
/-- and the semaphores they leave. -/
abbrev doneIn (c : Dev nD) (p b : Fin 2) : sProp 𝕄 :=
  iprop(semVal (cell c (some (.inr (p, b, peer c 0)))) 0 ∗ semVal (cell c (some (.inr (p, b, peer c 1)))) 0 ∗ semVal (cell c (some (.inr (p, b, peer c 2)))) 0)

/-- The four gathered row blocks are the device's own and its three peers'. -/
theorem rows_around (b : Fin 2) :
    iprop(own4 (F := F) c gM b c (XF m ρ b c) ∗ rcvPay m ρ c 0 b (peer c 0) ∗ rcvPay m ρ c 0 b (peer c 1) ∗ rcvPay m ρ c 0 b (peer c 2)) ⊢ rows m ρ c b :=
  Entails.of_eq (around_four c fun s => own4 (F := F) c gM b s (XF m ρ b s))

/-- The first batch's rows awaited. -/
theorem part7 {Q : Vec F S1x1x128x512 .bf16 → sProp 𝕄} :
    iprop(ctx (F := F) m ρ K ∗ ow (F := F) c (owd c 6) ∗ waitsIn (F := F) c 0 0 ∗ own4 (F := F) c gM 0 c (XF m ρ 0 c))
      ⊢ iprop(((ow (F := F) c (owd c 6) ∗ doneIn (F := F) c 0 0 ∗ rows m ρ c 0) -∗ Q (XF m ρ 0 0))
        -∗ run c (args (k0_part7 (F := F)) c (num c)) Q) := by
  rw [k0_part7_eq_skeleton]
  unfold args k0_part7_skel
  simp only [Prog.lift, Prog.bind_op, Prog.bind_ret, Prog.pure_eq_ret]
  iintro ⟨#HC, HO, ⟨H0, H1, H2⟩, HG⟩ Hk
  iapply (wait_rcv m ρ K (c := c) 0 0 0 6 (by decide) (by revert c; decide) (by rfl)) $$ [HO H0]
  · isplitr; · iexact HC
    isplitl [H0] <;> iassumption
  iintro ⟨HO, D0, G0⟩
  iapply (wait_rcv m ρ K (c := c) 0 0 1 6 (by decide) (by revert c; decide) (by rfl)) $$ [HO H1]
  · isplitr; · iexact HC
    isplitl [H1] <;> iassumption
  iintro ⟨HO, D1, G1⟩
  iapply (wait_rcv m ρ K (c := c) 0 0 2 6 (by decide) (by revert c; decide) (by rfl)) $$ [HO H2]
  · isplitr; · iexact HC
    isplitl [H2] <;> iassumption
  iintro ⟨HO, D2, G2⟩
  ihave HR := (rows_around m ρ (c := c) 0) $$ [HG G0 G1 G2]
  · isplitl [HG]; · iexact HG
    isplitl [G0]; · iexact G0
    isplitl [G1] <;> iassumption
  icases HR with ⟨R0, R1, R2, R3⟩
  iapply (load4 gM 0 0 rfl) $$ R0
  iintro R0
  unfold run
  rw [wp_ret]
  imodintro
  iapply Hk
  isplitl [HO]; · iexact HO
  isplitl [D0 D1 D2]
  · isplitl [D0]; · iexact D0
    isplitl [D1] <;> iassumption
  isplitl [R0]; · iexact R0
  isplitl [R1]; · iexact R1
  isplitl [R2] <;> iassumption

section Vals
variable (c : Dev nD) (b : Fin 2)
abbrev cq : FVec F S512x256 .bf16 := qOf (wqstg m ρ c) (XF m ρ b)
abbrev ck : FVec F S512x256 .bf16 := kOf (wkstg m ρ c) (XF m ρ b)
abbrev cv : FVec F S512x256 .bf16 := vOf (wvstg m ρ c) (XF m ρ b)
abbrev h0 : FVec F S512x64 .bf16 := head0 (wqstg m ρ c) (wkstg m ρ c) (wvstg m ρ c) (XF m ρ b)
abbrev h1 : FVec F S512x64 .bf16 := head1 (wqstg m ρ c) (wkstg m ρ c) (wvstg m ρ c) (XF m ρ b)
abbrev h2 : FVec F S512x64 .bf16 := head2 (wqstg m ρ c) (wkstg m ρ c) (wvstg m ρ c) (XF m ρ b)
end Vals

/-- The queries, keys and values of the first batch. -/
theorem part8 {Q : (Σ' (v236 : FVec F S512x256 .bf16) (v246 : FVec F S512x256 .bf16) (v248 : FVec F S512x256 .bf16) (v251 : FVec F S512x64 .bf16), FVec F S512x512 .f32) → sProp 𝕄} :
    rows m ρ c 0
      ⊢ iprop((rows m ρ c 0 -∗ Q ⟨cq m ρ c 0, ck m ρ c 0, cv m ρ c 0, k0_pay29 (k0_pay14 (wvstg m ρ c)) (XF m ρ 0 0) (XF m ρ 0 1) (XF m ρ 0 2) (XF m ρ 0 3),
            k0_pay30 (k0_pay12 (wqstg m ρ c)) (k0_pay13 (wkstg m ρ c)) ropeA ropeB evenLane (XF m ρ 0 0) (XF m ρ 0 1) (XF m ρ 0 2) (XF m ρ 0 3)⟩)
        -∗ run c (args (k0_part8 (F := F)) (k0_pay12 (wqstg m ρ c)) (k0_pay13 (wkstg m ρ c)) (k0_pay14 (wvstg m ρ c)) ropeA ropeB evenLane (XF m ρ 0 0)) Q) := by
  rw [k0_part8_eq_skeleton]
  unfold args k0_part8_skel cq ck cv qOf kOf vOf
  simp only [Prog.lift, Prog.bind_op, Prog.bind_ret, Prog.pure_eq_ret]
  iintro ⟨R0, R1, R2, R3⟩ Hk
  iapply (load4 gM 0 1 rfl) $$ R1
  iintro R1
  iapply (load4 gM 0 2 rfl) $$ R2
  iintro R2
  iapply (load4 gM 0 3 rfl) $$ R3
  iintro R3
  unfold run
  rw [wp_ret]
  imodintro
  iapply Hk
  isplitl [R0]; · iexact R0
  isplitl [R1]; · iexact R1
  isplitl [R2] <;> iassumption

/-- Its first three heads. -/
theorem part9 {Q : (Σ' (v266 : FVec F S512x64 .bf16) (v284 : FVec F S512x64 .bf16), FVec F S512x64 .bf16) → sProp 𝕄} :
    iprop(Q ⟨h0 m ρ c 0, h1 m ρ c 0, h2 m ρ c 0⟩)
      ⊢ run c (args (k0_part9 (F := F)) (cq m ρ c 0) (ck m ρ c 0) (cv m ρ c 0) (k0_pay29 (k0_pay14 (wvstg m ρ c)) (XF m ρ 0 0) (XF m ρ 0 1) (XF m ρ 0 2) (XF m ρ 0 3))
          (k0_pay30 (k0_pay12 (wqstg m ρ c)) (k0_pay13 (wkstg m ρ c)) ropeA ropeB evenLane (XF m ρ 0 0) (XF m ρ 0 1) (XF m ρ 0 2) (XF m ρ 0 3))) Q := by
  rw [k0_part9_eq_skeleton]
  unfold args k0_part9_skel run h0 h1 h2 head0 head1 head2
  simp only [Prog.pure_eq_ret]
  iintro HQ
  rw [wp_ret]
  imodintro
  iexact HQ

/-- The partial product's last row block before it is laid out. -/
abbrev last (c : Dev nD) (b : Fin 2) : FVec F S128x512 .bf16 :=
  k0_pay38 (k0_pay15 (wostg m ρ c)) (cq m ρ c b) (ck m ρ c b) (cv m ρ c b) (h0 m ρ c b) (h1 m ρ c b) (h2 m ρ c b)

/-- Its partial product, the first three row blocks stored. -/
theorem part10 {V0 V1 V2 : S1x1x128x512.Idx → Elt F .bf16} {Q : FVec F S128x512 .bf16 → sProp 𝕄} :
    iprop(own4 (F := F) c pM 0 0 V0 ∗ own4 (F := F) c pM 0 1 V1 ∗ own4 (F := F) c pM 0 2 V2)
      ⊢ iprop(((own4 (F := F) c pM 0 0 (PO m ρ c 0 0) ∗ own4 (F := F) c pM 0 1 (PO m ρ c 0 1) ∗ own4 (F := F) c pM 0 2 (PO m ρ c 0 2)) -∗ Q (last m ρ c 0))
        -∗ run c (args (k0_part10 (F := F)) (k0_pay15 (wostg m ρ c)) (cq m ρ c 0) (ck m ρ c 0) (cv m ρ c 0) (h0 m ρ c 0) (h1 m ρ c 0) (h2 m ρ c 0)) Q) := by
  rw [k0_part10_eq_skeleton]
  unfold args k0_part10_skel
  simp only [Prog.lift, Prog.bind_op, Prog.bind_ret, Prog.pure_eq_ret]
  iintro ⟨P0, P1, P2⟩ Hk
  iapply (load4 pM 0 0 rfl) $$ P0
  iintro P0
  iapply (store4 pM 0 0 (w := PO m ρ c 0 0) rfl) $$ P0
  iintro P0
  iapply (load4 pM 0 1 rfl) $$ P1
  iintro P1
  iapply (store4 pM 0 1 (w := PO m ρ c 0 1) rfl) $$ P1
  iintro P1
  iapply (load4 pM 0 2 rfl) $$ P2
  iintro P2
  iapply (store4 pM 0 2 (w := PO m ρ c 0 2) rfl) $$ P2
  iintro P2
  unfold run
  rw [wp_ret]
  imodintro
  iapply Hk
  isplitl [P0]; · iexact P0
  isplitl [P1] <;> iassumption

/-- What a transfer of the scatter takes beside its source. -/
def sctIn (c : Dev nD) (b : Fin 2) (o : Fin 3) : sProp 𝕄 :=
  iprop((dutyTok ER (cell c (some (.inl (1, b, o)))) 0 c ∗ dutyTok ER (cell (peer c o) (some (.inr (1, b, c)))) 0 c) ∗ any4 (F := F) (peer c o) rM b c)

/-- With the product in place a scatter's send can start. -/
theorem sct_snd (b : Fin 2) (o : Fin 3) : iprop(sctIn (F := F) c b o ∗ own4 (F := F) c pM b (peer c o) (PO m ρ c b (peer c o))) ⊢ sndIn m ρ c 1 b o := by
  unfold sctIn sndIn
  iintro ⟨⟨HT, HA⟩, HP⟩
  isplitl [HT]; · iexact HT
  isplitl [HA]; · iexact HA
  iapply (show own4 (F := F) c pM b (peer c o) (PO m ρ c b (peer c o)) ⊢ sndPay m ρ c 1 b o from BI.Entails.refl _)
  iexact HP

/-- The four product slots are the device's own and those for its three peers. -/
theorem part_around (b : Fin 2) :
    iprop(own4 (F := F) c pM b 0 (PO m ρ c b 0) ∗ own4 (F := F) c pM b 1 (PO m ρ c b 1) ∗ own4 (F := F) c pM b 2 (PO m ρ c b 2) ∗ own4 (F := F) c pM b 3 (PO m ρ c b 3))
      ⊢ iprop(own4 (F := F) c pM b c (PO m ρ c b c) ∗ own4 (F := F) c pM b (peer c 0) (PO m ρ c b (peer c 0)) ∗ own4 (F := F) c pM b (peer c 1) (PO m ρ c b (peer c 1))
        ∗ own4 (F := F) c pM b (peer c 2) (PO m ρ c b (peer c 2))) :=
  Entails.of_eq (around_four c fun s => own4 (F := F) c pM b s (PO m ρ c b s)).symm

/-- Its last row block stored; the product sent to the first two peers. -/
theorem part11 {V3 : S1x1x128x512.Idx → Elt F .bf16} {Q : BitVec 32 → sProp 𝕄} :
    iprop(ctx (F := F) m ρ K ∗ ow (F := F) c (owd c 6)
        ∗ (own4 (F := F) c pM 0 0 (PO m ρ c 0 0) ∗ own4 (F := F) c pM 0 1 (PO m ρ c 0 1) ∗ own4 (F := F) c pM 0 2 (PO m ρ c 0 2)) ∗ own4 (F := F) c pM 0 3 V3
        ∗ sctIn (F := F) c 0 0 ∗ sctIn (F := F) c 0 1)
      ⊢ iprop((∀ v, (ow (F := F) c (owd c 8) ∗ own4 (F := F) c pM 0 c (PO m ρ c 0 c) ∗ own4 (F := F) c pM 0 (peer c 2) (PO m ρ c 0 (peer c 2))
            ∗ sndW (F := F) c 1 0 0 ∗ sndW (F := F) c 1 0 1) -∗ Q v)
        -∗ run c (args (k0_part11 (F := F)) c (num c) (last m ρ c 0)) Q) := by
  rw [k0_part11_eq_skeleton]
  unfold args k0_part11_skel
  simp only [Prog.lift, Prog.bind_op, Prog.bind_ret, Prog.pure_eq_ret]
  iintro ⟨#HC, HO, ⟨P0, P1, P2⟩, P3, T0, T1⟩ Hk
  iapply (load4 pM 0 3 rfl) $$ P3
  iintro P3
  iapply (store4 pM 0 3 (w := PO m ρ c 0 3) rfl) $$ P3
  iintro P3
  ihave HP := (part_around m ρ (c := c) 0) $$ [P0 P1 P2 P3]
  · isplitl [P0]; · iexact P0
    isplitl [P1]; · iexact P1
    isplitl [P2] <;> iassumption
  icases HP with ⟨Pc, S0, S1, S2⟩
  iapply (send_scatter m ρ K (c := c) 0 0 (k0_off6_eq c 0) (k0_off2_eq c) (by revert c; decide) (by rfl) (by revert c; decide) 6 rfl) $$ [HO T0 S0]
  · isplitr; · iexact HC
    isplitl [HO]; · iexact HO
    iapply (sct_snd m ρ 0 0); isplitl [T0] <;> iassumption
  iintro ⟨W0, HO⟩
  iapply (send_scatter m ρ K (c := c) 0 1 (k0_off6_eq c 1) (k0_off2_eq c) (by revert c; decide) (by rfl) (by revert c; decide) 7 rfl) $$ [HO T1 S1]
  · isplitr; · iexact HC
    isplitl [HO]; · iexact HO
    iapply (sct_snd m ρ 0 1); isplitl [T1] <;> iassumption
  iintro ⟨W1, HO⟩
  unfold run
  rw [wp_ret]
  imodintro
  iapply Hk
  isplitl [HO]; · iexact HO
  isplitl [Pc]; · iexact Pc
  isplitl [S2]; · iexact S2
  isplitl [W0] <;> iassumption

/-- The product sent to the third peer; the device's own row block copied. -/
theorem part12 {v : BitVec 32} {Q : PUnit → sProp 𝕄} :
    iprop(ctx (F := F) m ρ K ∗ ow (F := F) c (owd c 8) ∗ sctIn (F := F) c 0 2 ∗ own4 (F := F) c pM 0 (peer c 2) (PO m ρ c 0 (peer c 2))
        ∗ own4 (F := F) c pM 0 c (PO m ρ c 0 c) ∗ any4 (F := F) c rM 0 c)
      ⊢ iprop(((ow (F := F) c (owd c 9) ∗ sndW (F := F) c 1 0 2 ∗ own4 (F := F) c pM 0 c (PO m ρ c 0 c) ∗ own4 (F := F) c rM 0 c (RB m ρ c 0 c)) -∗ Q ⟨⟩)
        -∗ run c (args (k0_part12 (F := F)) c (num c) v) Q) := by
  rw [k0_part12_eq_skeleton]
  unfold args k0_part12_skel
  simp only [Prog.lift, Prog.bind_op, Prog.bind_ret, Prog.pure_eq_ret]
  iintro ⟨#HC, HO, T2, S2, HX⟩ Hk
  iapply (send_scatter m ρ K (c := c) 0 2 (k0_off6_eq c 2) (k0_off2_eq c) (by revert c; decide) (by rfl) (by revert c; decide) 8 rfl) $$ [HO T2 S2]
  · isplitr; · iexact HC
    isplitl [HO]; · iexact HO
    iapply (sct_snd m ρ 0 2); isplitl [T2] <;> iassumption
  iintro ⟨W2, HO⟩
  rw [← upto_zero (c := c) (any4 (F := F) c rM 0 c) (own4 (F := F) c rM 0 c (RB m ρ c 0 c))]
  iapply (on_device (Q := Q) 0 0 rfl (turn c 0 0 rfl) (copy_part (c := c) (Q := Q) m ρ 0 0 rfl rfl rfl)) $$ HX
  iintro HX
  iapply (on_device (Q := Q) 1 1 rfl (turn c 1 1 rfl) (copy_part (c := c) (Q := Q) m ρ 0 1 rfl rfl rfl)) $$ HX
  iintro HX
  iapply (on_device (Q := Q) 2 2 rfl (turn c 2 2 rfl) (copy_part (c := c) (Q := Q) m ρ 0 2 rfl rfl rfl)) $$ HX
  iintro HX
  iapply (on_device (Q := Q) 3 3 rfl (turn c 3 3 rfl) (copy_part (c := c) (Q := Q) m ρ 0 3 rfl rfl rfl)) $$ HX
  iintro HX
  unfold run
  rw [wp_ret]
  imodintro
  iapply Hk
  isplitl [HO]; · iexact HO
  isplitl [W2]; · iexact W2
  rw [upto_four]
  iexact HX

end Cert.KernelIdeal.Prot

end
-- ==== Proof.KernelIdeal.Parts3.lean ====
/-
  The kernel body's pieces, continued: the second batch, the sums, and the waits for the sends.
-/
module

public import proofs.«01_k».proof.Proof.KernelIdeal.Parts2

@[expose] public section

noncomputable section

namespace Cert.KernelIdeal.Prot

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {c : Dev nD} (m : (ℓ : Loc nD τ sig) → Buf (Elt F) ℓ) (ρ : Dev nD → PrngReg) (K : Dev nD × Cl → ℕ)

/-- The second batch's rows awaited. -/
theorem part13 {Q : FVec F S128x512 .bf16 → sProp 𝕄} :
    iprop(ctx (F := F) m ρ K ∗ ow (F := F) c (owd c 9) ∗ waitsIn (F := F) c 0 1 ∗ own4 (F := F) c gM 1 c (XF m ρ 1 c))
      ⊢ iprop(((ow (F := F) c (owd c 9) ∗ doneIn (F := F) c 0 1 ∗ rows m ρ c 1) -∗ Q (k0_pay44 (XF m ρ 1 0)))
        -∗ run c (args (k0_part13 (F := F)) c (num c)) Q) := by
  rw [k0_part13_eq_skeleton]
  unfold args k0_part13_skel
  simp only [Prog.lift, Prog.bind_op, Prog.bind_ret, Prog.pure_eq_ret]
  iintro ⟨#HC, HO, ⟨H0, H1, H2⟩, HG⟩ Hk
  iapply (wait_rcv m ρ K (c := c) 0 1 0 9 (by decide) (by revert c; decide) (by rfl)) $$ [HO H0]
  · isplitr; · iexact HC
    isplitl [H0] <;> iassumption
  iintro ⟨HO, D0, G0⟩
  iapply (wait_rcv m ρ K (c := c) 0 1 1 9 (by decide) (by revert c; decide) (by rfl)) $$ [HO H1]
  · isplitr; · iexact HC
    isplitl [H1] <;> iassumption
  iintro ⟨HO, D1, G1⟩
  iapply (wait_rcv m ρ K (c := c) 0 1 2 9 (by decide) (by revert c; decide) (by rfl)) $$ [HO H2]
  · isplitr; · iexact HC
    isplitl [H2] <;> iassumption
  iintro ⟨HO, D2, G2⟩
  ihave HR := (rows_around m ρ (c := c) 1) $$ [HG G0 G1 G2]
  · isplitl [HG]; · iexact HG
    isplitl [G0]; · iexact G0
    isplitl [G1] <;> iassumption
  icases HR with ⟨R0, R1, R2, R3⟩
  iapply (load4 gM 1 0 rfl) $$ R0
  iintro R0
  unfold run
  rw [wp_ret]
  imodintro
  iapply Hk
  isplitl [HO]; · iexact HO
  isplitl [D0 D1 D2]
  · isplitl [D0]; · iexact D0
    isplitl [D1] <;> iassumption
  isplitl [R0]; · iexact R0
  isplitl [R1]; · iexact R1
  isplitl [R2] <;> iassumption

/-! The second batch's values are the first's maps of its own gathered rows. -/

section Vals
variable (c : Dev nD)
/-- The second batch's queries are spelt differently and are the same; -/
theorem q_eq : k0_pay46 (k0_pay12 (wqstg m ρ c)) ropeA ropeB evenLane (k0_pay44 (XF m ρ 1 0)) (XF m ρ 1 1) (XF m ρ 1 2) (XF m ρ 1 3) = cq m ρ c 1 := rfl
/-- so are its keys, -/
theorem k_eq : k0_pay47 (k0_pay13 (wkstg m ρ c)) ropeA ropeB evenLane (k0_pay44 (XF m ρ 1 0)) (XF m ρ 1 1) (XF m ρ 1 2) (XF m ρ 1 3) = ck m ρ c 1 := rfl
/-- its values, -/
theorem v_eq : k0_pay48 (k0_pay14 (wvstg m ρ c)) (k0_pay44 (XF m ρ 1 0)) (XF m ρ 1 1) (XF m ρ 1 2) (XF m ρ 1 3) = cv m ρ c 1 := rfl
/-- The first head's values, scores and the scores' row maxima. -/
abbrev hv : FVec F S512x64 .bf16 := k0_pay49 (k0_pay14 (wvstg m ρ c)) (k0_pay44 (XF m ρ 1 0)) (XF m ρ 1 1) (XF m ρ 1 2) (XF m ρ 1 3)
abbrev hs : FVec F S512x512 .f32 :=
  k0_pay50 (k0_pay12 (wqstg m ρ c)) (k0_pay13 (wkstg m ρ c)) ropeA ropeB evenLane (k0_pay44 (XF m ρ 1 0)) (XF m ρ 1 1) (XF m ρ 1 2) (XF m ρ 1 3)
abbrev hm : FVec F S512 .f32 :=
  k0_pay51 (k0_pay12 (wqstg m ρ c)) (k0_pay13 (wkstg m ρ c)) ropeA ropeB evenLane (k0_pay44 (XF m ρ 1 0)) (XF m ρ 1 1) (XF m ρ 1 2) (XF m ρ 1 3)
/-- its first head's context, -/
theorem h0_eq : k0_pay52 (hv m ρ c) (hs m ρ c) (hm m ρ c) = h0 m ρ c 1 := rfl
/-- its second's, -/
theorem h1_eq : k0_pay53 (cq m ρ c 1) (ck m ρ c 1) (cv m ρ c 1) = h1 m ρ c 1 := rfl
/-- its third's, -/
theorem h2_eq : k0_pay54 (cq m ρ c 1) (ck m ρ c 1) (cv m ρ c 1) = h2 m ρ c 1 := rfl
/-- its partial product's first row block, -/
theorem po0_eq : k0_pay57 (k0_pay15 (wostg m ρ c)) (ck m ρ c 1) (cv m ρ c 1) (h0 m ρ c 1) (h1 m ρ c 1) (h2 m ρ c 1) (k0_pay55 (cq m ρ c 1)) = PO m ρ c 1 0 := rfl
/-- the second, -/
theorem po1_eq : k0_pay58 (k0_pay15 (wostg m ρ c)) (ck m ρ c 1) (cv m ρ c 1) (h0 m ρ c 1) (h1 m ρ c 1) (h2 m ρ c 1) (k0_pay55 (cq m ρ c 1)) = PO m ρ c 1 1 := rfl
/-- the third, -/
theorem po2_eq : k0_pay59 (k0_pay15 (wostg m ρ c)) (ck m ρ c 1) (cv m ρ c 1) (h0 m ρ c 1) (h1 m ρ c 1) (h2 m ρ c 1) (k0_pay55 (cq m ρ c 1)) = PO m ρ c 1 2 := rfl
/-- the fourth, -/
theorem last_eq : k0_pay60 (k0_pay15 (wostg m ρ c)) (ck m ρ c 1) (cv m ρ c 1) (h0 m ρ c 1) (h1 m ρ c 1) (h2 m ρ c 1) (k0_pay55 (cq m ρ c 1)) = last m ρ c 1 := rfl
/-- and its result. -/
theorem out_eq : k0_pay69 (k0_pay67 (RB m ρ c 1 0)) (k0_pay68 (RB m ρ c 1 1)) (RB m ρ c 1 2) (RB m ρ c 1 3) = OUT m ρ c 1 := rfl
end Vals

/-- The queries, keys and values of the second batch. -/
theorem part14 {Q : (Σ' (v439 : FVec F S512x256 .bf16) (v449 : FVec F S512x256 .bf16) (v451 : FVec F S512x256 .bf16) (v454 : FVec F S512x64 .bf16) (v457 : FVec F S512x512 .f32), FVec F S512 .f32) → sProp 𝕄} :
    rows m ρ c 1
      ⊢ iprop((rows m ρ c 1 -∗ Q ⟨cq m ρ c 1, ck m ρ c 1, cv m ρ c 1, hv m ρ c, hs m ρ c, hm m ρ c⟩)
        -∗ run c (args (k0_part14 (F := F)) (k0_pay12 (wqstg m ρ c)) (k0_pay13 (wkstg m ρ c)) (k0_pay14 (wvstg m ρ c)) ropeA ropeB evenLane (k0_pay44 (XF m ρ 1 0))) Q) := by
  rw [k0_part14_eq_skeleton]
  unfold args k0_part14_skel
  simp only [Prog.lift, Prog.bind_op, Prog.bind_ret, Prog.pure_eq_ret]
  iintro ⟨R0, R1, R2, R3⟩ Hk
  iapply (load4 gM 1 1 rfl) $$ R1
  iintro R1
  iapply (load4 gM 1 2 rfl) $$ R2
  iintro R2
  iapply (load4 gM 1 3 rfl) $$ R3
  iintro R3
  rw [q_eq, k_eq, v_eq]
  unfold run
  rw [wp_ret]
  imodintro
  iapply Hk
  isplitl [R0]; · iexact R0
  isplitl [R1]; · iexact R1
  isplitl [R2] <;> iassumption

/-- Its first three heads. -/
theorem part15 {Q : (Σ' (v469 : FVec F S512x64 .bf16) (v487 : FVec F S512x64 .bf16) (v505 : FVec F S512x64 .bf16), FVec F S512x64 .bf16) → sProp 𝕄} :
    iprop(Q ⟨h0 m ρ c 1, h1 m ρ c 1, h2 m ρ c 1, k0_pay55 (cq m ρ c 1)⟩)
      ⊢ run c (args (k0_part15 (F := F)) (cq m ρ c 1) (ck m ρ c 1) (cv m ρ c 1) (hv m ρ c) (hs m ρ c) (hm m ρ c)) Q := by
  rw [k0_part15_eq_skeleton]
  unfold args k0_part15_skel run
  simp only [Prog.pure_eq_ret]
  iintro HQ
  rw [wp_ret, h0_eq, h1_eq, h2_eq]
  imodintro
  iexact HQ

/-- Its partial product, the first three row blocks stored. -/
theorem part16 {V0 V1 V2 : S1x1x128x512.Idx → Elt F .bf16} {Q : FVec F S128x512 .bf16 → sProp 𝕄} :
    iprop(own4 (F := F) c pM 1 0 V0 ∗ own4 (F := F) c pM 1 1 V1 ∗ own4 (F := F) c pM 1 2 V2)
      ⊢ iprop(((own4 (F := F) c pM 1 0 (PO m ρ c 1 0) ∗ own4 (F := F) c pM 1 1 (PO m ρ c 1 1) ∗ own4 (F := F) c pM 1 2 (PO m ρ c 1 2)) -∗ Q (last m ρ c 1))
        -∗ run c (args (k0_part16 (F := F)) (k0_pay15 (wostg m ρ c)) (ck m ρ c 1) (cv m ρ c 1) (h0 m ρ c 1) (h1 m ρ c 1) (h2 m ρ c 1) (k0_pay55 (cq m ρ c 1))) Q) := by
  rw [k0_part16_eq_skeleton]
  unfold args k0_part16_skel
  simp only [Prog.lift, Prog.bind_op, Prog.bind_ret, Prog.pure_eq_ret]
  rw [po0_eq, po1_eq, po2_eq, last_eq]
  iintro ⟨P0, P1, P2⟩ Hk
  iapply (load4 pM 1 0 rfl) $$ P0
  iintro P0
  iapply (store4 pM 1 0 (w := PO m ρ c 1 0) rfl) $$ P0
  iintro P0
  iapply (load4 pM 1 1 rfl) $$ P1
  iintro P1
  iapply (store4 pM 1 1 (w := PO m ρ c 1 1) rfl) $$ P1
  iintro P1
  iapply (load4 pM 1 2 rfl) $$ P2
  iintro P2
  iapply (store4 pM 1 2 (w := PO m ρ c 1 2) rfl) $$ P2
  iintro P2
  unfold run
  rw [wp_ret]
  imodintro
  iapply Hk
  isplitl [P0]; · iexact P0
  isplitl [P1] <;> iassumption

/-- Its last row block stored; the product sent to the first two peers. -/
theorem part17 {V3 : S1x1x128x512.Idx → Elt F .bf16} {Q : BitVec 32 → sProp 𝕄} :
    iprop(ctx (F := F) m ρ K ∗ ow (F := F) c (owd c 9)
        ∗ (own4 (F := F) c pM 1 0 (PO m ρ c 1 0) ∗ own4 (F := F) c pM 1 1 (PO m ρ c 1 1) ∗ own4 (F := F) c pM 1 2 (PO m ρ c 1 2)) ∗ own4 (F := F) c pM 1 3 V3
        ∗ sctIn (F := F) c 1 0 ∗ sctIn (F := F) c 1 1)
      ⊢ iprop((∀ v, (ow (F := F) c (owd c 11) ∗ own4 (F := F) c pM 1 c (PO m ρ c 1 c) ∗ own4 (F := F) c pM 1 (peer c 2) (PO m ρ c 1 (peer c 2))
            ∗ sndW (F := F) c 1 1 0 ∗ sndW (F := F) c 1 1 1) -∗ Q v)
        -∗ run c (args (k0_part17 (F := F)) c (num c) (last m ρ c 1)) Q) := by
  rw [k0_part17_eq_skeleton]
  unfold args k0_part17_skel
  simp only [Prog.lift, Prog.bind_op, Prog.bind_ret, Prog.pure_eq_ret]
  iintro ⟨#HC, HO, ⟨P0, P1, P2⟩, P3, T0, T1⟩ Hk
  iapply (load4 pM 1 3 rfl) $$ P3
  iintro P3
  iapply (store4 pM 1 3 (w := PO m ρ c 1 3) rfl) $$ P3
  iintro P3
  ihave HP := (part_around m ρ (c := c) 1) $$ [P0 P1 P2 P3]
  · isplitl [P0]; · iexact P0
    isplitl [P1]; · iexact P1
    isplitl [P2] <;> iassumption
  icases HP with ⟨Pc, S0, S1, S2⟩
  iapply (send_scatter m ρ K (c := c) 1 0 (k0_off8_eq c 0) (k0_off4_eq c) (by revert c; decide) (by rfl) (by revert c; decide) 9 rfl) $$ [HO T0 S0]
  · isplitr; · iexact HC
    isplitl [HO]; · iexact HO
    iapply (sct_snd m ρ 1 0); isplitl [T0] <;> iassumption
  iintro ⟨W0, HO⟩
  iapply (send_scatter m ρ K (c := c) 1 1 (k0_off8_eq c 1) (k0_off4_eq c) (by revert c; decide) (by rfl) (by revert c; decide) 10 rfl) $$ [HO T1 S1]
  · isplitr; · iexact HC
    isplitl [HO]; · iexact HO
    iapply (sct_snd m ρ 1 1); isplitl [T1] <;> iassumption
  iintro ⟨W1, HO⟩
  unfold run
  rw [wp_ret]
  imodintro
  iapply Hk
  isplitl [HO]; · iexact HO
  isplitl [Pc]; · iexact Pc
  isplitl [S2]; · iexact S2
  isplitl [W0] <;> iassumption

/-- The product sent to the third peer; the device's own row block copied. -/
theorem part18 {v : BitVec 32} {Q : PUnit → sProp 𝕄} :
    iprop(ctx (F := F) m ρ K ∗ ow (F := F) c (owd c 11) ∗ sctIn (F := F) c 1 2 ∗ own4 (F := F) c pM 1 (peer c 2) (PO m ρ c 1 (peer c 2))
        ∗ own4 (F := F) c pM 1 c (PO m ρ c 1 c) ∗ any4 (F := F) c rM 1 c)
      ⊢ iprop(((ow (F := F) c (owd c 12) ∗ sndW (F := F) c 1 1 2 ∗ own4 (F := F) c pM 1 c (PO m ρ c 1 c) ∗ own4 (F := F) c rM 1 c (RB m ρ c 1 c)) -∗ Q ⟨⟩)
        -∗ run c (args (k0_part18 (F := F)) c (num c) v) Q) := by
  rw [k0_part18_eq_skeleton]
  unfold args k0_part18_skel
  simp only [Prog.lift, Prog.bind_op, Prog.bind_ret, Prog.pure_eq_ret]
  iintro ⟨#HC, HO, T2, S2, HX⟩ Hk
  iapply (send_scatter m ρ K (c := c) 1 2 (k0_off8_eq c 2) (k0_off4_eq c) (by revert c; decide) (by rfl) (by revert c; decide) 11 rfl) $$ [HO T2 S2]
  · isplitr; · iexact HC
    isplitl [HO]; · iexact HO
    iapply (sct_snd m ρ 1 2); isplitl [T2] <;> iassumption
  iintro ⟨W2, HO⟩
  rw [← upto_zero (c := c) (any4 (F := F) c rM 1 c) (own4 (F := F) c rM 1 c (RB m ρ c 1 c))]
  iapply (on_device (Q := Q) 0 0 rfl (turn c 0 0 rfl) (copy_part (c := c) (Q := Q) m ρ 1 0 rfl rfl rfl)) $$ HX
  iintro HX
  iapply (on_device (Q := Q) 1 1 rfl (turn c 1 1 rfl) (copy_part (c := c) (Q := Q) m ρ 1 1 rfl rfl rfl)) $$ HX
  iintro HX
  iapply (on_device (Q := Q) 2 2 rfl (turn c 2 2 rfl) (copy_part (c := c) (Q := Q) m ρ 1 2 rfl rfl rfl)) $$ HX
  iintro HX
  iapply (on_device (Q := Q) 3 3 rfl (turn c 3 3 rfl) (copy_part (c := c) (Q := Q) m ρ 1 3 rfl rfl rfl)) $$ HX
  iintro HX
  unfold run
  rw [wp_ret]
  imodintro
  iapply Hk
  isplitl [HO]; · iexact HO
  isplitl [W2]; · iexact W2
  rw [upto_four]
  iexact HX

/-- The received partial products of a row block. -/
abbrev parts (c : Dev nD) (b : Fin 2) : sProp 𝕄 :=
  iprop(own4 (F := F) c rM b 0 (RB m ρ c b 0) ∗ own4 (F := F) c rM b 1 (RB m ρ c b 1) ∗ own4 (F := F) c rM b 2 (RB m ρ c b 2) ∗ own4 (F := F) c rM b 3 (RB m ρ c b 3))

/-- The four received parts are the device's own and its three peers'. -/
theorem parts_around (b : Fin 2) :
    iprop(own4 (F := F) c rM b c (RB m ρ c b c) ∗ rcvPay m ρ c 1 b (peer c 0) ∗ rcvPay m ρ c 1 b (peer c 1) ∗ rcvPay m ρ c 1 b (peer c 2)) ⊢ parts m ρ c b :=
  Entails.of_eq (around_four c fun s => own4 (F := F) c rM b s (RB m ρ c b s))

/-- The first batch's partial products awaited; -/
theorem part19 {Q : PUnit → sProp 𝕄} :
    iprop(ctx (F := F) m ρ K ∗ ow (F := F) c (owd c 12) ∗ waitsIn (F := F) c 1 0 ∗ own4 (F := F) c rM 0 c (RB m ρ c 0 c))
      ⊢ iprop(((ow (F := F) c (owd c 12) ∗ doneIn (F := F) c 1 0 ∗ parts m ρ c 0) -∗ Q ⟨⟩)
        -∗ run c (args (k0_part19 (F := F)) c (num c)) Q) := by
  rw [k0_part19_eq_skeleton]
  unfold args k0_part19_skel
  simp only [Prog.lift, Prog.bind_op, Prog.bind_ret, Prog.pure_eq_ret]
  iintro ⟨#HC, HO, ⟨H0, H1, H2⟩, HG⟩ Hk
  iapply (wait_rcv m ρ K (c := c) 1 0 0 12 (by decide) (by revert c; decide) (by rfl)) $$ [HO H0]
  · isplitr; · iexact HC
    isplitl [H0] <;> iassumption
  iintro ⟨HO, D0, G0⟩
  iapply (wait_rcv m ρ K (c := c) 1 0 1 12 (by decide) (by revert c; decide) (by rfl)) $$ [HO H1]
  · isplitr; · iexact HC
    isplitl [H1] <;> iassumption
  iintro ⟨HO, D1, G1⟩
  iapply (wait_rcv m ρ K (c := c) 1 0 2 12 (by decide) (by revert c; decide) (by rfl)) $$ [HO H2]
  · isplitr; · iexact HC
    isplitl [H2] <;> iassumption
  iintro ⟨HO, D2, G2⟩
  ihave HR := (parts_around m ρ (c := c) 0) $$ [HG G0 G1 G2]
  · isplitl [HG]; · iexact HG
    isplitl [G0]; · iexact G0
    isplitl [G1] <;> iassumption
  unfold run
  rw [wp_ret]
  imodintro
  iapply Hk
  isplitl [HO]; · iexact HO
  isplitl [D0 D1 D2]
  · isplitl [D0]; · iexact D0
    isplitl [D1] <;> iassumption
  iexact HR

/-- summed; -/
theorem part20 {V : S1x128x512.Idx → Elt F .f32} {Q : BitVec 32 → sProp 𝕄} :
    iprop(ctx (F := F) m ρ K ∗ ow (F := F) c (owd c 12) ∗ parts m ρ c 0 ∗ own3 (F := F) c oM 0 fullShare V ∗ rcvW (F := F) c 1 1 0)
      ⊢ iprop((∀ v, (ow (F := F) c (owd c 12) ∗ parts m ρ c 0 ∗ own3 (F := F) c oM 0 fullShare (OUT m ρ c 0)
            ∗ semVal (cell c (some (.inr (1, 1, peer c 0)))) 0 ∗ rcvPay m ρ c 1 1 (peer c 0)) -∗ Q v)
        -∗ run c (args (k0_part20 (F := F)) c (num c)) Q) := by
  rw [k0_part20_eq_skeleton]
  unfold args k0_part20_skel
  simp only [Prog.lift, Prog.bind_op, Prog.bind_ret, Prog.pure_eq_ret]
  iintro ⟨#HC, HO, ⟨R0, R1, R2, R3⟩, Ho, H0⟩ Hk
  iapply (load4 rM 0 0 rfl) $$ R0
  iintro R0
  iapply (load4 rM 0 1 rfl) $$ R1
  iintro R1
  iapply (load4 rM 0 2 rfl) $$ R2
  iintro R2
  iapply (load4 rM 0 3 rfl) $$ R3
  iintro R3
  iapply (load3 oM 0 rfl) $$ Ho
  iintro Ho
  iapply (store3 oM 0 (w := OUT m ρ c 0) rfl) $$ Ho
  iintro Ho
  iapply (wait_rcv m ρ K (c := c) 1 1 0 12 (by decide) (by revert c; decide) (by rfl)) $$ [HO H0]
  · isplitr; · iexact HC
    isplitl [H0] <;> iassumption
  iintro ⟨HO, D0, G0⟩
  unfold run
  rw [wp_ret]
  imodintro
  iapply Hk
  isplitl [HO]; · iexact HO
  isplitl [R0 R1 R2 R3]
  · isplitl [R0]; · iexact R0
    isplitl [R1]; · iexact R1
    isplitl [R2] <;> iassumption
  isplitl [Ho]; · iexact Ho
  isplitl [D0] <;> iassumption

/-- the second batch's awaited; -/
theorem part21 {v : BitVec 32} {Q : (Σ' (v674 : FVec F S128x512 .f32), FVec F S128x512 .f32) → sProp 𝕄} :
    iprop(ctx (F := F) m ρ K ∗ ow (F := F) c (owd c 12) ∗ rcvW (F := F) c 1 1 1 ∗ rcvW (F := F) c 1 1 2 ∗ rcvPay m ρ c 1 1 (peer c 0) ∗ own4 (F := F) c rM 1 c (RB m ρ c 1 c))
      ⊢ iprop(((ow (F := F) c (owd c 12) ∗ semVal (cell c (some (.inr (1, 1, peer c 1)))) 0 ∗ semVal (cell c (some (.inr (1, 1, peer c 2)))) 0 ∗ parts m ρ c 1)
            -∗ Q ⟨k0_pay67 (RB m ρ c 1 0), k0_pay68 (RB m ρ c 1 1)⟩)
        -∗ run c (args (k0_part21 (F := F)) c (num c) v) Q) := by
  rw [k0_part21_eq_skeleton]
  unfold args k0_part21_skel
  simp only [Prog.lift, Prog.bind_op, Prog.bind_ret, Prog.pure_eq_ret]
  iintro ⟨#HC, HO, H1, H2, G0, HG⟩ Hk
  iapply (wait_rcv m ρ K (c := c) 1 1 1 12 (by decide) (by revert c; decide) (by rfl)) $$ [HO H1]
  · isplitr; · iexact HC
    isplitl [H1] <;> iassumption
  iintro ⟨HO, D1, G1⟩
  iapply (wait_rcv m ρ K (c := c) 1 1 2 12 (by decide) (by revert c; decide) (by rfl)) $$ [HO H2]
  · isplitr; · iexact HC
    isplitl [H2] <;> iassumption
  iintro ⟨HO, D2, G2⟩
  ihave HR := (parts_around m ρ (c := c) 1) $$ [HG G0 G1 G2]
  · isplitl [HG]; · iexact HG
    isplitl [G0]; · iexact G0
    isplitl [G1] <;> iassumption
  icases HR with ⟨R0, R1, R2, R3⟩
  iapply (load4 rM 1 0 rfl) $$ R0
  iintro R0
  iapply (load4 rM 1 1 rfl) $$ R1
  iintro R1
  unfold run
  rw [wp_ret]
  imodintro
  iapply Hk
  isplitl [HO]; · iexact HO
  isplitl [D1]; · iexact D1
  isplitl [D2]; · iexact D2
  isplitl [R0]; · iexact R0
  isplitl [R1]; · iexact R1
  isplitl [R2] <;> iassumption

/-- What a send's wait takes, and what it leaves. -/
abbrev outW (c : Dev nD) (p b : Fin 2) (o : Fin 3) : sProp 𝕄 := iprop(sndW (F := F) c p b o ∗ atPos ER (cell c (some (.inl (p, b, o)))) 0 ∅ 0)
abbrev outD (c : Dev nD) (p b : Fin 2) (o : Fin 3) : sProp 𝕄 := iprop(semVal (cell c (some (.inl (p, b, o)))) 0 ∗ sndPay m ρ c p b o)

/-- summed; then the sends awaited. -/
theorem part22 {V : S1x128x512.Idx → Elt F .f32} {Q : PUnit → sProp 𝕄} :
    iprop(ctx (F := F) m ρ K ∗ ow (F := F) c (owd c 12) ∗ parts m ρ c 1 ∗ own3 (F := F) c oM 1 fullShare V ∗ outW (F := F) c 0 0 0 ∗ outW (F := F) c 0 0 1)
      ⊢ iprop(((ow (F := F) c (owd c 12) ∗ parts m ρ c 1 ∗ own3 (F := F) c oM 1 fullShare (OUT m ρ c 1) ∗ outD m ρ c 0 0 0 ∗ outD m ρ c 0 0 1) -∗ Q ⟨⟩)
        -∗ run c (args (k0_part22 (F := F)) c (k0_pay67 (RB m ρ c 1 0)) (k0_pay68 (RB m ρ c 1 1))) Q) := by
  rw [k0_part22_eq_skeleton]
  unfold args k0_part22_skel
  simp only [Prog.lift, Prog.bind_op, Prog.bind_ret, Prog.pure_eq_ret]
  iintro ⟨#HC, HO, ⟨R0, R1, R2, R3⟩, Ho, ⟨W0, A0⟩, ⟨W1, A1⟩⟩ Hk
  iapply (load4 rM 1 2 rfl) $$ R2
  iintro R2
  iapply (load4 rM 1 3 rfl) $$ R3
  iintro R3
  rw [out_eq]
  iapply (load3 oM 1 rfl) $$ Ho
  iintro Ho
  iapply (store3 oM 1 (w := OUT m ρ c 1) rfl) $$ Ho
  iintro Ho
  iapply (wait_snd m ρ K (c := c) 0 0 0 (by rfl) (by rfl)) $$ [HO W0 A0]
  · isplitr; · iexact HC
    isplitl [W0]; · iexact W0
    isplitl [A0] <;> iassumption
  iintro ⟨HO, D0⟩
  iapply (wait_snd m ρ K (c := c) 0 0 1 (by rfl) (by rfl)) $$ [HO W1 A1]
  · isplitr; · iexact HC
    isplitl [W1]; · iexact W1
    isplitl [A1] <;> iassumption
  iintro ⟨HO, D1⟩
  unfold run
  rw [wp_ret]
  imodintro
  iapply Hk
  isplitl [HO]; · iexact HO
  isplitl [R0 R1 R2 R3]
  · isplitl [R0]; · iexact R0
    isplitl [R1]; · iexact R1
    isplitl [R2] <;> iassumption
  isplitl [Ho]; · iexact Ho
  isplitl [D0] <;> iassumption

/-- Waits for the last four sends of rows to be done. -/
theorem part23 {Q : PUnit → sProp 𝕄} :
    iprop(ctx (F := F) m ρ K ∗ ow (F := F) c (owd c 12) ∗ outW (F := F) c 0 0 2 ∗ outW (F := F) c 0 1 0 ∗ outW (F := F) c 0 1 1 ∗ outW (F := F) c 0 1 2)
      ⊢ iprop(((ow (F := F) c (owd c 12) ∗ outD m ρ c 0 0 2 ∗ outD m ρ c 0 1 0 ∗ outD m ρ c 0 1 1 ∗ outD m ρ c 0 1 2) -∗ Q ⟨⟩)
        -∗ run c (args (k0_part23 (F := F)) c) Q) := by
  rw [k0_part23_eq_skeleton]
  unfold args k0_part23_skel
  simp only [Prog.lift, Prog.bind_op, Prog.bind_ret, Prog.pure_eq_ret]
  iintro ⟨#HC, HO, ⟨W0, A0⟩, ⟨W1, A1⟩, ⟨W2, A2⟩, ⟨W3, A3⟩⟩ Hk
  iapply (wait_snd m ρ K (c := c) 0 0 2 (by rfl) (by rfl)) $$ [HO W0 A0]
  · isplitr; · iexact HC
    isplitl [W0]; · iexact W0
    isplitl [A0] <;> iassumption
  iintro ⟨HO, D0⟩
  iapply (wait_snd m ρ K (c := c) 0 1 0 (by rfl) (by rfl)) $$ [HO W1 A1]
  · isplitr; · iexact HC
    isplitl [W1]; · iexact W1
    isplitl [A1] <;> iassumption
  iintro ⟨HO, D1⟩
  iapply (wait_snd m ρ K (c := c) 0 1 1 (by rfl) (by rfl)) $$ [HO W2 A2]
  · isplitr; · iexact HC
    isplitl [W2]; · iexact W2
    isplitl [A2] <;> iassumption
  iintro ⟨HO, D2⟩
  iapply (wait_snd m ρ K (c := c) 0 1 2 (by rfl) (by rfl)) $$ [HO W3 A3]
  · isplitr; · iexact HC
    isplitl [W3]; · iexact W3
    isplitl [A3] <;> iassumption
  iintro ⟨HO, D3⟩
  unfold run
  rw [wp_ret]
  imodintro
  iapply Hk
  isplitl [HO]; · iexact HO
  isplitl [D0]; · iexact D0
  isplitl [D1]; · iexact D1
  isplitl [D2] <;> iassumption

/-- Waits for the first batch's three sends of products to be done. -/
theorem part24 {Q : PUnit → sProp 𝕄} :
    iprop(ctx (F := F) m ρ K ∗ ow (F := F) c (owd c 12) ∗ outW (F := F) c 1 0 0 ∗ outW (F := F) c 1 0 1 ∗ outW (F := F) c 1 0 2)
      ⊢ iprop(((ow (F := F) c (owd c 12) ∗ outD m ρ c 1 0 0 ∗ outD m ρ c 1 0 1 ∗ outD m ρ c 1 0 2) -∗ Q ⟨⟩)
        -∗ run c (args (k0_part24 (F := F)) c) Q) := by
  rw [k0_part24_eq_skeleton]
  unfold args k0_part24_skel
  simp only [Prog.lift, Prog.bind_op, Prog.bind_ret, Prog.pure_eq_ret]
  iintro ⟨#HC, HO, ⟨W0, A0⟩, ⟨W1, A1⟩, ⟨W2, A2⟩⟩ Hk
  iapply (wait_snd m ρ K (c := c) 1 0 0 (by rfl) (by rfl)) $$ [HO W0 A0]
  · isplitr; · iexact HC
    isplitl [W0]; · iexact W0
    isplitl [A0] <;> iassumption
  iintro ⟨HO, D0⟩
  iapply (wait_snd m ρ K (c := c) 1 0 1 (by rfl) (by rfl)) $$ [HO W1 A1]
  · isplitr; · iexact HC
    isplitl [W1]; · iexact W1
    isplitl [A1] <;> iassumption
  iintro ⟨HO, D1⟩
  iapply (wait_snd m ρ K (c := c) 1 0 2 (by rfl) (by rfl)) $$ [HO W2 A2]
  · isplitr; · iexact HC
    isplitl [W2]; · iexact W2
    isplitl [A2] <;> iassumption
  iintro ⟨HO, D2⟩
  unfold run
  rw [wp_ret]
  imodintro
  iapply Hk
  isplitl [HO]; · iexact HO
  isplitl [D0]; · iexact D0
  isplitl [D1] <;> iassumption

end Cert.KernelIdeal.Prot

end
-- ==== Proof.KernelIdeal.Body.lean ====
/-
  The whole body on one device: the pieces in order, and what moves between them.
-/
module

public import proofs.«01_k».proof.Proof.KernelIdeal.Parts3

@[expose] public section

noncomputable section

namespace Cert.KernelIdeal.Prot

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {c : Dev nD} (m : (ℓ : Loc nD τ sig) → Buf (Elt F) ℓ) (ρ : Dev nD → PrngReg) (K : Dev nD × Cl → ℕ)

/-- A sequence runs its first program, then the second on what that returned. -/
theorem run_bind {α β : Type} (p : Prog (TpuEff nD τ sig (Elt F) Λ₀ .tc) α) (k : α → Prog (TpuEff nD τ sig (Elt F) Λ₀ .tc) β) (Q : β → sProp 𝕄) :
    run c (p >>= k) Q = run c p fun v => run c (k v) Q :=
  wp_bind _ _ _ _ _ _

/-- A program that returns at once ends with its value. -/
theorem run_ret {α : Type} (v : α) (Q : α → sProp 𝕄) : Q v ⊢ run c (.ret v) Q := by
  unfold run
  rw [wp_ret]
  iintro H
  imodintro
  iexact H

/-- The two duties one transfer pays. -/
abbrev tk (c : Dev nD) (p b : Fin 2) (o : Fin 3) : sProp 𝕄 :=
  iprop(dutyTok ER (cell c (some (.inl (p, b, o)))) 0 c ∗ dutyTok ER (cell (peer c o) (some (.inr (p, b, c)))) 0 c)
abbrev tks (c : Dev nD) (p b : Fin 2) : sProp 𝕄 := iprop(tk (F := F) c p b 0 ∗ tk (F := F) c p b 1 ∗ tk (F := F) c p b 2)
/-- The device's positions at its send cells; at its own index of the receive cells, where nothing lands. -/
abbrev sat (c : Dev nD) (p b : Fin 2) (o : Fin 3) : sProp 𝕄 := atPos ER (cell c (some (.inl (p, b, o)))) 0 ∅ 0
abbrev sats (c : Dev nD) (p b : Fin 2) : sProp 𝕄 := iprop(sat (F := F) c p b 0 ∗ sat (F := F) c p b 1 ∗ sat (F := F) c p b 2)
abbrev iat (c : Dev nD) (p b : Fin 2) : sProp 𝕄 := atPos ER (cell c (some (.inr (p, b, c)))) 0 ∅ 0
/-- A semaphore of the protocol at zero. -/
abbrev sv (c : Dev nD) (k : Cl) : sProp 𝕄 := semVal (cell c k) 0
/-- Send cells, and receive cells, at zero. -/
abbrev svS (c : Dev nD) (p b : Fin 2) : sProp 𝕄 :=
  iprop(sv (F := F) c (some (.inl (p, b, 0))) ∗ sv (F := F) c (some (.inl (p, b, 1))) ∗ sv (F := F) c (some (.inl (p, b, 2))))
abbrev svR (c : Dev nD) (p b : Fin 2) : sProp 𝕄 := iprop(sv (F := F) c (some (.inr (p, b, c))) ∗ doneIn (F := F) c p b)

/-- A `2×4×128×512` buffer's row blocks of one batch, at whatever contents, by their index; by the device's own first. -/
abbrev anys (c : Dev nD) (M : Memref sig .tc .vmem S2x4x128x512 .bf16) (b : Fin 2) : sProp 𝕄 :=
  iprop(any4 (F := F) c M b 0 ∗ any4 (F := F) c M b 1 ∗ any4 (F := F) c M b 2 ∗ any4 (F := F) c M b 3)

/-- What the body starts from, -/
def pre (V0 V1 : S1x128x512.Idx → Elt F .bf16) (O0 O1 : S1x128x512.Idx → Elt F .f32) : sProp 𝕄 :=
  iprop(ctx (F := F) m ρ K ∗ ow (F := F) c (O₀ c) ∗ (barOut (F := F) c 0 ∗ barOut (F := F) c 1 ∗ barOut (F := F) c 2)
    ∗ (cred (tallyAt (cell c none) () 3) ∗ atPos ER (cell c none) 0 ∅ 0)
    ∗ (own3 (F := F) c xM 0 fullShare (xrow m ρ c 0) ∗ own3 (F := F) c xM 1 fullShare (xrow m ρ c 1))
    ∗ (own3 (F := F) c sM 0 fullShare V0 ∗ own3 (F := F) c sM 1 fullShare V1)
    ∗ (tks (F := F) c 0 0 ∗ tks (F := F) c 0 1 ∗ tks (F := F) c 1 0 ∗ tks (F := F) c 1 1)
    ∗ (waitsIn (F := F) c 0 0 ∗ waitsIn (F := F) c 0 1 ∗ waitsIn (F := F) c 1 0 ∗ waitsIn (F := F) c 1 1)
    ∗ (sats (F := F) c 0 0 ∗ sats (F := F) c 0 1 ∗ sats (F := F) c 1 0 ∗ sats (F := F) c 1 1)
    ∗ (iat (F := F) c 0 0 ∗ iat (F := F) c 0 1 ∗ iat (F := F) c 1 0 ∗ iat (F := F) c 1 1)
    ∗ ownW m ρ c ∗ mineG (F := F) c ∗ (any4 (F := F) c rM 0 c ∗ any4 (F := F) c rM 1 c)
    ∗ (anys (F := F) c pM 0 ∗ anys (F := F) c pM 1)
    ∗ (own3 (F := F) c oM 0 fullShare O0 ∗ own3 (F := F) c oM 1 fullShare O1))
/-- the row blocks of a partial product, the device's own first, -/
abbrev prods (c : Dev nD) (b : Fin 2) : sProp 𝕄 :=
  iprop(own4 (F := F) c pM b c (PO m ρ c b c) ∗ own4 (F := F) c pM b (peer c 0) (PO m ρ c b (peer c 0)) ∗ own4 (F := F) c pM b (peer c 1) (PO m ρ c b (peer c 1))
    ∗ own4 (F := F) c pM b (peer c 2) (PO m ρ c b (peer c 2)))
/-- and what it leaves. -/
def post (c : Dev nD) : sProp 𝕄 :=
  iprop(ow (F := F) c 0 ∗ (sv (F := F) c none ∗ (svS (F := F) c 0 0 ∗ svS (F := F) c 0 1 ∗ svS (F := F) c 1 0 ∗ svS (F := F) c 1 1)
      ∗ svR (F := F) c 0 0 ∗ svR (F := F) c 0 1 ∗ svR (F := F) c 1 0 ∗ svR (F := F) c 1 1)
    ∗ (own3 (F := F) c xM 0 fullShare (xrow m ρ c 0) ∗ own3 (F := F) c xM 1 fullShare (xrow m ρ c 1)) ∗ ownW m ρ c
    ∗ (own3 (F := F) c oM 0 fullShare (OUT m ρ c 0) ∗ own3 (F := F) c oM 1 fullShare (OUT m ρ c 1))
    ∗ (own3 (F := F) c sM 0 fullShare (XS m ρ c 0) ∗ own3 (F := F) c sM 1 fullShare (XS m ρ c 1))
    ∗ (rows m ρ c 0 ∗ rows m ρ c 1) ∗ (prods m ρ c 0 ∗ prods m ρ c 1) ∗ (parts m ρ c 0 ∗ parts m ρ c 1))

/-- A transfer of the gather, from its duties, the peer's landing slot and the share of the rows lent to it. -/
theorem gat_snd (b : Fin 2) (o : Fin 3) :
    iprop(tk (F := F) c 0 b o ∗ any4 (F := F) (peer c o) gM b c ∗ own3 (F := F) c sM b (sq o) (XS m ρ c b)) ⊢ sndIn m ρ c 0 b o := BI.Entails.refl _
/-- A token and the peer's slot are what a scatter's send starts from. -/
theorem sct_in (b : Fin 2) (o : Fin 3) : iprop(tk (F := F) c 1 b o ∗ any4 (F := F) (peer c o) rM b c) ⊢ sctIn (F := F) c b o := BI.Entails.refl _

/-- A slot with some contents has contents. -/
theorem any4_elim (c : Dev nD) (M : Memref sig .tc .vmem S2x4x128x512 .bf16) (b : Fin 2) (s : Fin 4) : any4 (F := F) c M b s ⊢ iprop(∃ V, own4 (F := F) c M b s V) := BI.Entails.refl _

/-- What the sends' completions hand back, together: the rows sent; the row blocks of the partial product. -/
theorem rows_back (b : Fin 2) :
    iprop(sndPay m ρ c 0 b 0 ∗ sndPay m ρ c 0 b 1 ∗ sndPay m ρ c 0 b 2 ∗ own3 (F := F) c sM b kq (XS m ρ c b)) ⊢ own3 (F := F) c sM b fullShare (XS m ρ c b) :=
  collect (F := F) c b (XS m ρ c b)
/-- The four product slots, the device's own and the three sent, come back together. -/
theorem prods_back (b : Fin 2) :
    iprop(own4 (F := F) c pM b c (PO m ρ c b c) ∗ sndPay m ρ c 1 b 0 ∗ sndPay m ρ c 1 b 1 ∗ sndPay m ρ c 1 b 2) ⊢ prods m ρ c b := BI.Entails.refl _

/-- A receive cell at the device's own index, where nothing lands, is at zero throughout. -/
theorem idle_close (p b : Fin 2) : iprop(ctx (F := F) m ρ K ∗ iat (F := F) c p b) ⊢ iprop(|={Set.univ}=> sv (F := F) c (some (.inr (p, b, c)))) := by
  iintro ⟨#HC, HA⟩
  ihave #HI := (ctx_inv m ρ K c (some (.inr (p, b, c)))) $$ HC
  iapply (Rounds.cell_close ER (Rd m ρ) (Set.mem_univ (K (c, some (.inr (p, b, c))))) (fun h => h) (R := 0) (duties_idle m ρ c p b))
  isplitr; · iexact HI
  iexact HA

set_option maxRecDepth 65536 in
set_option maxHeartbeats 4000000 in
/-- The body, from its first barrier signal to its last wait. -/
theorem whole {V0 V1 : S1x128x512.Idx → Elt F .bf16} {O0 O1 : S1x128x512.Idx → Elt F .f32} {Q : PUnit → sProp 𝕄} :
    pre (c := c) m ρ K V0 V1 O0 O1 ⊢ iprop((post m ρ c -∗ Q ⟨⟩) -∗ run c (args (k0_part25 (F := F))) Q) := by
  rw [k0_part25_eq_skeleton]
  unfold args k0_part25_skel pre
  simp only [run_bind]
  iintro ⟨#HC, HO, HB, HW, ⟨X0, X1⟩, ⟨S0, S1⟩, ⟨⟨T000, T001, T002⟩, ⟨T010, T011, T012⟩, ⟨T100, T101, T102⟩, ⟨T110, T111, T112⟩⟩, ⟨I00, I01, I10, ⟨J0, J1, J2⟩⟩, ⟨⟨A000, A001, A002⟩, ⟨A010, A011, A012⟩, ⟨A100, A101, A102⟩, ⟨A110, A111, A112⟩⟩, ⟨L00, L01, L10, L11⟩, Wt, MG, ⟨MR0, MR1⟩, ⟨⟨Y00, Y01, Y02, Y03⟩, ⟨Y10, Y11, Y12, Y13⟩⟩, ⟨O0, O1⟩⟩ Hk
  imod (idle_close m ρ K (c := c) 0 0) $$ [L00] with L00
  · isplitr; · iexact HC
    iexact L00
  imod (idle_close m ρ K (c := c) 0 1) $$ [L01] with L01
  · isplitr; · iexact HC
    iexact L01
  imod (idle_close m ρ K (c := c) 1 0) $$ [L10] with L10
  · isplitr; · iexact HC
    iexact L10
  imod (idle_close m ρ K (c := c) 1 1) $$ [L11] with L11
  · isplitr; · iexact HC
    iexact L11
  iapply (part1 m ρ K (c := c)) $$ [HO HB HW X0 X1 S0]
  · isplitr; · iexact HC
    isplitl [HO]; · iexact HO
    isplitl [HB]; · iexact HB
    isplitl [HW]; · iexact HW
    isplitl [X0]; · iexact X0
    isplitl [X1]; · iexact X1
    iexact S0
  iintro ⟨HO, ⟨ZB, B0, B1, B2⟩, X0, X1, S0⟩
  beta_reduce
  unfold barPay
  icases B0 with ⟨G00, G10, H00, H10⟩
  icases B1 with ⟨G01, G11, H01, H11⟩
  icases B2 with ⟨G02, G12, H02, H12⟩
  ihave S0 := (lend (F := F) c 0 (XS m ρ c 0)) $$ S0
  icases S0 with ⟨Q00, Q01, Q02, Q03⟩
  ihave U0 := (gat_snd m ρ (c := c) 0 0) $$ [T000 G00 Q00]
  · isplitl [T000]; · iexact T000
    isplitl [G00]; · iexact G00
    iexact Q00
  ihave U1 := (gat_snd m ρ (c := c) 0 1) $$ [T001 G01 Q01]
  · isplitl [T001]; · iexact T001
    isplitl [G01]; · iexact G01
    iexact Q01
  iapply (part2 m ρ K (c := c)) $$ [HO S1 U0 U1]
  · isplitr; · iexact HC
    isplitl [HO]; · iexact HO
    isplitl [S1]; · iexact S1
    isplitl [U0]; · iexact U0
    iexact U1
  iintro %v ⟨HO, S1, D000, D001⟩
  beta_reduce
  ihave S1 := (lend (F := F) c 1 (XS m ρ c 1)) $$ S1
  icases S1 with ⟨Q10, Q11, Q12, Q13⟩
  ihave U0 := (gat_snd m ρ (c := c) 0 2) $$ [T002 G02 Q02]
  · isplitl [T002]; · iexact T002
    isplitl [G02]; · iexact G02
    iexact Q02
  ihave U1 := (gat_snd m ρ (c := c) 1 0) $$ [T010 G10 Q10]
  · isplitl [T010]; · iexact T010
    isplitl [G10]; · iexact G10
    iexact Q10
  iapply (part3 m ρ K (c := c)) $$ [HO U0 U1]
  · isplitr; · iexact HC
    isplitl [HO]; · iexact HO
    isplitl [U0]; · iexact U0
    iexact U1
  iintro ⟨HO, D002, D010⟩
  beta_reduce
  ihave U0 := (gat_snd m ρ (c := c) 1 1) $$ [T011 G11 Q11]
  · isplitl [T011]; · iexact T011
    isplitl [G11]; · iexact G11
    iexact Q11
  ihave U1 := (gat_snd m ρ (c := c) 1 2) $$ [T012 G12 Q12]
  · isplitl [T012]; · iexact T012
    isplitl [G12]; · iexact G12
    iexact Q12
  iapply (part4 m ρ K (c := c)) $$ [HO U0 U1 Q03 Q13 MG]
  · isplitr; · iexact HC
    isplitl [HO]; · iexact HO
    isplitl [U0]; · iexact U0
    isplitl [U1]; · iexact U1
    isplitl [Q03 Q13]; · (isplitl [Q03]; · iexact Q03); iexact Q13
    iexact MG
  iintro ⟨HO, D011, D012, ⟨Q03, Q13⟩, ⟨N0, N1⟩⟩
  beta_reduce
  iapply (part5 m ρ (c := c)) $$ Wt
  iintro Wt
  beta_reduce
  iapply (part6 (c := c))
  beta_reduce
  iapply (part7 m ρ K (c := c)) $$ [HO I00 N0]
  · isplitr; · iexact HC
    isplitl [HO]; · iexact HO
    isplitl [I00]; · iexact I00
    iexact N0
  iintro ⟨HO, Z00, R0⟩
  beta_reduce
  iapply (part8 m ρ (c := c)) $$ R0
  iintro R0
  beta_reduce
  iapply (part9 m ρ (c := c))
  beta_reduce
  ihave Y00 := (any4_elim (F := F) c pM 0 0) $$ Y00
  icases Y00 with ⟨%y00, Y00⟩
  ihave Y01 := (any4_elim (F := F) c pM 0 1) $$ Y01
  icases Y01 with ⟨%y01, Y01⟩
  ihave Y02 := (any4_elim (F := F) c pM 0 2) $$ Y02
  icases Y02 with ⟨%y02, Y02⟩
  ihave Y03 := (any4_elim (F := F) c pM 0 3) $$ Y03
  icases Y03 with ⟨%y03, Y03⟩
  iapply (part10 m ρ (c := c)) $$ [Y00 Y01 Y02]
  · (isplitl [Y00]; · iexact Y00); (isplitl [Y01]; · iexact Y01); iexact Y02
  iintro ⟨Y00, Y01, Y02⟩
  beta_reduce
  ihave U0 := (sct_in (c := c) 0 0) $$ [T100 H00]
  · isplitl [T100]; · iexact T100
    iexact H00
  ihave U1 := (sct_in (c := c) 0 1) $$ [T101 H01]
  · isplitl [T101]; · iexact T101
    iexact H01
  iapply (part11 m ρ K (c := c)) $$ [HO Y00 Y01 Y02 Y03 U0 U1]
  · isplitr; · iexact HC
    isplitl [HO]; · iexact HO
    isplitl [Y00 Y01 Y02]; · (isplitl [Y00]; · iexact Y00); (isplitl [Y01]; · iexact Y01); iexact Y02
    isplitl [Y03]; · iexact Y03
    isplitl [U0]; · iexact U0
    iexact U1
  iintro %w ⟨HO, P0c, P02, D100, D101⟩
  beta_reduce
  ihave U0 := (sct_in (c := c) 0 2) $$ [T102 H02]
  · isplitl [T102]; · iexact T102
    iexact H02
  iapply (part12 m ρ K (c := c)) $$ [HO U0 P02 P0c MR0]
  · isplitr; · iexact HC
    isplitl [HO]; · iexact HO
    isplitl [U0]; · iexact U0
    isplitl [P02]; · iexact P02
    isplitl [P0c]; · iexact P0c
    iexact MR0
  iintro ⟨HO, D102, P0c, MR0⟩
  beta_reduce
  iapply (part13 m ρ K (c := c)) $$ [HO I01 N1]
  · isplitr; · iexact HC
    isplitl [HO]; · iexact HO
    isplitl [I01]; · iexact I01
    iexact N1
  iintro ⟨HO, Z01, R1⟩
  beta_reduce
  iapply (part14 m ρ (c := c)) $$ R1
  iintro R1
  beta_reduce
  iapply (part15 m ρ (c := c))
  beta_reduce
  ihave Y10 := (any4_elim (F := F) c pM 1 0) $$ Y10
  icases Y10 with ⟨%y10, Y10⟩
  ihave Y11 := (any4_elim (F := F) c pM 1 1) $$ Y11
  icases Y11 with ⟨%y11, Y11⟩
  ihave Y12 := (any4_elim (F := F) c pM 1 2) $$ Y12
  icases Y12 with ⟨%y12, Y12⟩
  ihave Y13 := (any4_elim (F := F) c pM 1 3) $$ Y13
  icases Y13 with ⟨%y13, Y13⟩
  iapply (part16 m ρ (c := c)) $$ [Y10 Y11 Y12]
  · (isplitl [Y10]; · iexact Y10); (isplitl [Y11]; · iexact Y11); iexact Y12
  iintro ⟨Y10, Y11, Y12⟩
  beta_reduce
  ihave U0 := (sct_in (c := c) 1 0) $$ [T110 H10]
  · isplitl [T110]; · iexact T110
    iexact H10
  ihave U1 := (sct_in (c := c) 1 1) $$ [T111 H11]
  · isplitl [T111]; · iexact T111
    iexact H11
  iapply (part17 m ρ K (c := c)) $$ [HO Y10 Y11 Y12 Y13 U0 U1]
  · isplitr; · iexact HC
    isplitl [HO]; · iexact HO
    isplitl [Y10 Y11 Y12]; · (isplitl [Y10]; · iexact Y10); (isplitl [Y11]; · iexact Y11); iexact Y12
    isplitl [Y13]; · iexact Y13
    isplitl [U0]; · iexact U0
    iexact U1
  iintro %u ⟨HO, P1c, P12, D110, D111⟩
  beta_reduce
  ihave U0 := (sct_in (c := c) 1 2) $$ [T112 H12]
  · isplitl [T112]; · iexact T112
    iexact H12
  iapply (part18 m ρ K (c := c)) $$ [HO U0 P12 P1c MR1]
  · isplitr; · iexact HC
    isplitl [HO]; · iexact HO
    isplitl [U0]; · iexact U0
    isplitl [P12]; · iexact P12
    isplitl [P1c]; · iexact P1c
    iexact MR1
  iintro ⟨HO, D112, P1c, MR1⟩
  beta_reduce
  iapply (part19 m ρ K (c := c)) $$ [HO I10 MR0]
  · isplitr; · iexact HC
    isplitl [HO]; · iexact HO
    isplitl [I10]; · iexact I10
    iexact MR0
  iintro ⟨HO, Z10, E0⟩
  beta_reduce
  iapply (part20 m ρ K (c := c)) $$ [HO E0 O0 J0]
  · isplitr; · iexact HC
    isplitl [HO]; · iexact HO
    isplitl [E0]; · iexact E0
    isplitl [O0]; · iexact O0
    iexact J0
  iintro %z ⟨HO, E0, O0, Z0, V0⟩
  beta_reduce
  iapply (part21 m ρ K (c := c)) $$ [HO J1 J2 V0 MR1]
  · isplitr; · iexact HC
    isplitl [HO]; · iexact HO
    isplitl [J1]; · iexact J1
    isplitl [J2]; · iexact J2
    isplitl [V0]; · iexact V0
    iexact MR1
  iintro ⟨HO, Z1, Z2, E1⟩
  beta_reduce
  iapply (part22 m ρ K (c := c)) $$ [HO E1 O1 D000 A000 D001 A001]
  · isplitr; · iexact HC
    isplitl [HO]; · iexact HO
    isplitl [E1]; · iexact E1
    isplitl [O1]; · iexact O1
    isplitl [D000 A000]; · (isplitl [D000]; · iexact D000); iexact A000
    (isplitl [D001]; · iexact D001); iexact A001
  iintro ⟨HO, E1, O1, ⟨A000, D000⟩, ⟨A001, D001⟩⟩
  beta_reduce
  iapply (part23 m ρ K (c := c)) $$ [HO D002 A002 D010 A010 D011 A011 D012 A012]
  · isplitr; · iexact HC
    isplitl [HO]; · iexact HO
    isplitl [D002 A002]; · (isplitl [D002]; · iexact D002); iexact A002
    isplitl [D010 A010]; · (isplitl [D010]; · iexact D010); iexact A010
    isplitl [D011 A011]; · (isplitl [D011]; · iexact D011); iexact A011
    (isplitl [D012]; · iexact D012); iexact A012
  iintro ⟨HO, ⟨A002, D002⟩, ⟨A010, D010⟩, ⟨A011, D011⟩, ⟨A012, D012⟩⟩
  beta_reduce
  iapply (part24 m ρ K (c := c)) $$ [HO D100 A100 D101 A101 D102 A102]
  · isplitr; · iexact HC
    isplitl [HO]; · iexact HO
    isplitl [D100 A100]; · (isplitl [D100]; · iexact D100); iexact A100
    isplitl [D101 A101]; · (isplitl [D101]; · iexact D101); iexact A101
    (isplitl [D102]; · iexact D102); iexact A102
  iintro ⟨HO, ⟨A100, D100⟩, ⟨A101, D101⟩, ⟨A102, D102⟩⟩
  beta_reduce
  iapply (wait_snd m ρ K (c := c) 1 1 0 (by rfl) (by rfl)) $$ [HO D110 A110]
  · isplitr; · iexact HC
    isplitl [D110]; · iexact D110
    isplitl [A110] <;> iassumption
  iintro ⟨HO, A110, D110⟩
  iapply (run_ret (c := c))
  beta_reduce
  iapply (wait_snd m ρ K (c := c) 1 1 1 (by rfl) (by rfl)) $$ [HO D111 A111]
  · isplitr; · iexact HC
    isplitl [D111]; · iexact D111
    isplitl [A111] <;> iassumption
  iintro ⟨HO, A111, D111⟩
  iapply (run_ret (c := c))
  beta_reduce
  iapply (wait_snd m ρ K (c := c) 1 1 2 (by rfl) (by rfl)) $$ [HO D112 A112]
  · isplitr; · iexact HC
    isplitl [D112]; · iexact D112
    isplitl [A112] <;> iassumption
  iintro ⟨HO, A112, D112⟩
  iapply (run_ret (c := c))
  beta_reduce
  simp only [Prog.pure_eq_ret]
  iapply (run_ret (c := c))
  ihave S0 := (rows_back m ρ (c := c) 0) $$ [D000 D001 D002 Q03]
  · isplitl [D000]; · iexact D000
    isplitl [D001]; · iexact D001
    isplitl [D002]; · iexact D002
    iexact Q03
  ihave S1 := (rows_back m ρ (c := c) 1) $$ [D010 D011 D012 Q13]
  · isplitl [D010]; · iexact D010
    isplitl [D011]; · iexact D011
    isplitl [D012]; · iexact D012
    iexact Q13
  ihave P0c := (prods_back m ρ (c := c) 0) $$ [P0c D100 D101 D102]
  · isplitl [P0c]; · iexact P0c
    isplitl [D100]; · iexact D100
    isplitl [D101]; · iexact D101
    iexact D102
  ihave P1c := (prods_back m ρ (c := c) 1) $$ [P1c D110 D111 D112]
  · isplitl [P1c]; · iexact P1c
    isplitl [D110]; · iexact D110
    isplitl [D111]; · iexact D111
    iexact D112
  iapply Hk
  unfold post
  isplitl [HO]; · iexact HO
  isplitl [ZB A000 A001 A002 A010 A011 A012 A100 A101 A102 A110 A111 A112 L00 Z00 L01 Z01 L10 Z10 L11 Z0 Z1 Z2]
  · isplitl [ZB]; · iexact ZB
    isplitl [A000 A001 A002 A010 A011 A012 A100 A101 A102 A110 A111 A112]
    · isplitl [A000 A001 A002]
      · isplitl [A000]; · iexact A000
        isplitl [A001]; · iexact A001
        iexact A002
      isplitl [A010 A011 A012]
      · isplitl [A010]; · iexact A010
        isplitl [A011]; · iexact A011
        iexact A012
      isplitl [A100 A101 A102]
      · isplitl [A100]; · iexact A100
        isplitl [A101]; · iexact A101
        iexact A102
      isplitl [A110]; · iexact A110
      isplitl [A111]; · iexact A111
      iexact A112
    isplitl [L00 Z00]
    · isplitl [L00]; · iexact L00
      iexact Z00
    isplitl [L01 Z01]
    · isplitl [L01]; · iexact L01
      iexact Z01
    isplitl [L10 Z10]
    · isplitl [L10]; · iexact L10
      iexact Z10
    isplitl [L11]; · iexact L11
    isplitl [Z0]; · iexact Z0
    isplitl [Z1]; · iexact Z1
    iexact Z2
  isplitl [X0 X1]
  · isplitl [X0]; · iexact X0
    iexact X1
  isplitl [Wt]; · iexact Wt
  isplitl [O0 O1]
  · isplitl [O0]; · iexact O0
    iexact O1
  isplitl [S0 S1]
  · isplitl [S0]; · iexact S0
    iexact S1
  isplitl [R0 R1]
  · isplitl [R0]; · iexact R0
    iexact R1
  isplitl [P0c P1c]
  · isplitl [P0c]; · iexact P0c
    iexact P1c
  isplitl [E0]; · iexact E0
  iexact E1

end Cert.KernelIdeal.Prot

end
-- ==== Proof.KernelIdeal.Oblig.lean ====
/-
  What a device holds before the body and after it, and the body's obligation to the launch.
-/
module

public import proofs.«01_k».proof.Proof.KernelIdeal.Body

@[expose] public section

noncomputable section

namespace Cert.KernelIdeal.Prot

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Cl → ℕ)

/-- What every device may consult of the cells, the levels apart. -/
def records : sProp 𝕄 :=
  iprop((bigSep Finset.univ fun ck : Dev nD × Cl => cellInv ER (Rd (F := F) m ρ) (K ck) (cell ck.1 ck.2))
    ∗ bigSep Finset.univ fun ck : Dev nD × Cl => reached ER (cell ck.1 ck.2) 0)

instance records_persistent : BI.Persistent (records (F := F) m ρ K) := by unfold records; infer_instance

/-- The records and the levels make the shared context. -/
theorem ctx_of : iprop(records (F := F) m ρ K ∗ levAts L lv) ⊢ ctx (F := F) m ρ K := by
  unfold records ctx
  iintro ⟨⟨H1, H2⟩, H3⟩
  isplitl [H1]; · iexact H1
  isplitl [H2] <;> iassumption

/-- The duties a device pays. -/
def bts (c : Dev nD) : sProp 𝕄 :=
  iprop(dutyTok ER (cell (peer c 0) none) 0 c ∗ dutyTok ER (cell (peer c 1) none) 0 c ∗ dutyTok ER (cell (peer c 2) none) 0 c)
def duties (c : Dev nD) : sProp 𝕄 :=
  iprop(bts (F := F) c ∗ (tks (F := F) c 0 0 ∗ tks (F := F) c 0 1) ∗ (tks (F := F) c 1 0 ∗ tks (F := F) c 1 1))
/-- The duties, and the positions at the device's own cells. -/
def linear (c : Dev nD) : sProp 𝕄 := iprop((bigSep Finset.univ fun k : Cl => atPos ER (cell c k) 0 ∅ 0) ∗ duties (F := F) c)

/-- The credit of a batch's incoming transfers. -/
def crs (c : Dev nD) (p b : Fin 2) : sProp 𝕄 :=
  iprop(cred (tallyAt (cell c (some (.inr (p, b, peer c 0)))) () N) ∗ cred (tallyAt (cell c (some (.inr (p, b, peer c 1)))) () N)
    ∗ cred (tallyAt (cell c (some (.inr (p, b, peer c 2)))) () N))
def creds (c : Dev nD) : sProp 𝕄 :=
  iprop(cred (tallyAt (cell c none) () 3) ∗ crs (F := F) c 0 0 ∗ crs (F := F) c 0 1 ∗ crs (F := F) c 1 0 ∗ crs (F := F) c 1 1)

/-- What a device starts with beside its buffers. -/
def start (c : Dev nD) : sProp 𝕄 := iprop((∃ K, records (F := F) m ρ K ∗ linear (F := F) c) ∗ levAts L lv ∗ creds (F := F) c)

/-- The buffers that are no window's. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

def Φ₀ (c : Dev nD) : sProp 𝕄 := iprop(start (F := F) m ρ c ∗ scr (F := F) c)
def Φ₁ (c : Dev nD) : sProp 𝕄 := iprop((bigSep Finset.univ fun k : Cl => sv (F := F) c k) ∗ scr (F := F) c)

/-- The device's result. -/
def outAll (c : Dev nD) : S2x128x512.Idx → Elt F .f32 := glue3 (OUT m ρ c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wqstg m ρ c
    | ⟨2, _⟩ => wkstg m ρ c
    | ⟨3, _⟩ => wvstg m ρ c
    | ⟨4, _⟩ => wostg m ρ c
    | ⟨5, _⟩ => outAll m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

/-! ## The pieces regrouped -/

abbrev cs (Φ : Cl → sProp 𝕄) (p b : Fin 2) : sProp 𝕄 := iprop(Φ (some (.inl (p, b, 0))) ∗ Φ (some (.inl (p, b, 1))) ∗ Φ (some (.inl (p, b, 2))))
abbrev cr (c : Dev nD) (Φ : Cl → sProp 𝕄) (p b : Fin 2) : sProp 𝕄 :=
  iprop(Φ (some (.inr (p, b, c))) ∗ Φ (some (.inr (p, b, peer c 0))) ∗ Φ (some (.inr (p, b, peer c 1))) ∗ Φ (some (.inr (p, b, peer c 2))))

/-- The cells one by one: the barrier, the send cells, the receive cells with the device's own index first. -/
theorem cells_eq (c : Dev nD) (Φ : Cl → sProp 𝕄) :
    bigSep Finset.univ Φ = iprop(Φ none ∗ ((cs Φ 0 0 ∗ cs Φ 0 1) ∗ (cs Φ 1 0 ∗ cs Φ 1 1)) ∗ ((cr c Φ 0 0 ∗ cr c Φ 0 1) ∗ (cr c Φ 1 0 ∗ cr c Φ 1 1))) := by
  have hsome : bigSep (Finset.univ.erase (none : Cl)) Φ = bigSep Finset.univ fun k : Dc => Φ (some k) := by
    rw [show (Finset.univ.erase (none : Cl)) = Finset.univ.map ⟨some, Option.some_injective _⟩ from by decide, bigSep_map]
    rfl
  rw [bigSep_univ_at _ (none : Cl), hsome, bigSep_univ_sum, bigSep_univ_prod, bigSep_univ_prod, two, two]
  simp only [bigSep_univ_prod, two, three]
  rw [around c, around c, around c, around c]
  rfl

/-- Contents cut by batch and glued again are the contents. -/
theorem glue3_split {α : Type} (X : S2x128x512.Idx → α) : glue3 (fun b j => X ((r3 b).emb j)) = X := by
  funext i
  refine (congrArg X (r3_emb (i 0) (in3 (i 1) (i 2)))).trans (congrArg X ?_)
  funext a
  match a with | ⟨0, _⟩ => rfl | ⟨1, _⟩ => rfl | ⟨2, _⟩ => rfl

/-- To own a whole buffer is to own its location. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A buffer held whole is owned whole, and back. -/
theorem own_in (c : Dev nD) (b : Ref sig .tc) :
    iprop(∃ f : Buf (Elt F) ((c : Thread nD τ).loc b), ((c : Thread nD τ).loc b) ↦{fullShare} f)
      ⊢ iprop(∃ X, owns (Ix := Unit) (Name := ℕ) (U := UU) (Lvl := ℕ) (c : Thread nD τ) (Memref.whole b) fullShare X) := by
  iintro ⟨%f, H⟩
  iexists f
  rw [owns_whole_eq]
  iexists f
  isplitr; · ipureintro; rfl
  iexact H
/-- A buffer owned whole has some contents. -/
theorem own_out (c : Dev nD) (b : Ref sig .tc) (X : b.ty.Contents (Elt F)) :
    owns (Ix := Unit) (Name := ℕ) (U := UU) (Lvl := ℕ) (c : Thread nD τ) (Memref.whole b) fullShare X
      ⊢ iprop(∃ f : Buf (Elt F) ((c : Thread nD τ).loc b), ((c : Thread nD τ).loc b) ↦{fullShare} f) := by
  rw [owns_whole_eq]
  iintro ⟨%f, -, H⟩
  iexists f
  iexact H

/-- A batch's row blocks, by their index, from a buffer cut; the device's own first. -/
theorem anys_around (c : Dev nD) (M : Memref sig .tc .vmem S2x4x128x512 .bf16) (b : Fin 2) :
    (bigSep Finset.univ fun s => any4 (F := F) c M b s)
      ⊢ iprop(any4 (F := F) c M b c ∗ any4 (F := F) c M b (peer c 0) ∗ any4 (F := F) c M b (peer c 1) ∗ any4 (F := F) c M b (peer c 2)) :=
  Entails.of_eq (around c _)
/-- The four slots of a batch, written out. -/
theorem anys_four (c : Dev nD) (M : Memref sig .tc .vmem S2x4x128x512 .bf16) (b : Fin 2) :
    (bigSep Finset.univ fun s => any4 (F := F) c M b s) ⊢ anys (F := F) c M b := Entails.of_eq (four _)

/-- The gather's, the scatter's and the product's buffers back whole. -/
theorem rows_join (c : Dev nD) : iprop(rows m ρ c 0 ∗ rows m ρ c 1)
    ⊢ owns (Ix := Unit) (Name := ℕ) (U := UU) (Lvl := ℕ) (c : Thread nD τ) gM fullShare (glue4 (XF m ρ)) := by
  refine BIBase.Entails.trans ?_ (join4 (F := F) c gM (XF m ρ))
  rw [four, four]
/-- The received parts of both batches make the whole buffer. -/
theorem parts_join (c : Dev nD) : iprop(parts m ρ c 0 ∗ parts m ρ c 1)
    ⊢ owns (Ix := Unit) (Name := ℕ) (U := UU) (Lvl := ℕ) (c : Thread nD τ) rM fullShare (glue4 (RB m ρ c)) := by
  refine BIBase.Entails.trans ?_ (join4 (F := F) c rM (RB m ρ c))
  rw [four, four]
/-- So do the products of both batches. -/
theorem prods_join (c : Dev nD) : iprop(prods m ρ c 0 ∗ prods m ρ c 1)
    ⊢ owns (Ix := Unit) (Name := ℕ) (U := UU) (Lvl := ℕ) (c : Thread nD τ) pM fullShare (glue4 (PO m ρ c)) := by
  refine BIBase.Entails.trans ?_ (join4 (F := F) c pM (PO m ρ c))
  rw [around c, around c]

/-! ## The obligation -/

/-- Every argument's window is fetched. -/
theorem fetch0 (w : Fin 6) (hw : w.val < 5) (t : Fin cfg0.N) : (cfg0.win w).fetch t = true := by
  rw [fin_N0 t]
  match w, hw with
  | ⟨0, _⟩, _ => rfl
  | ⟨1, _⟩, _ => rfl
  | ⟨2, _⟩, _ => rfl
  | ⟨3, _⟩, _ => rfl
  | ⟨4, _⟩, _ => rfl

abbrev ownsAt (c : Dev nD) (b : Ref sig .tc) (X : b.ty.Contents (Elt F)) : sProp 𝕄 :=
  owns (Ix := Unit) (Name := ℕ) (U := UU) (Lvl := ℕ) (c : Thread nD τ) (Memref.whole b) fullShare X

def bodyPre (c : Dev nD) : sProp 𝕄 :=
  iprop(Φ₀ m ρ c ∗ (dats m ρ 0 c).owesAt () t0_0.castSucc
    ∗ (∃ d, ownsAt c cc0_stg0_0 ((dats m ρ 0 c).before (0 : Fin 6) t0_0 d))
    ∗ (∃ d, ownsAt c cc0_stg1_0 ((dats m ρ 0 c).before (1 : Fin 6) t0_0 d))
    ∗ (∃ d, ownsAt c cc0_stg2_0 ((dats m ρ 0 c).before (2 : Fin 6) t0_0 d))
    ∗ (∃ d, ownsAt c cc0_stg3_0 ((dats m ρ 0 c).before (3 : Fin 6) t0_0 d))
    ∗ (∃ d, ownsAt c cc0_stg4_0 ((dats m ρ 0 c).before (4 : Fin 6) t0_0 d))
    ∗ (∃ d, ownsAt c cc0_stg5_0 ((dats m ρ 0 c).before (5 : Fin 6) t0_0 d)))
def bodyPost (c : Dev nD) : sProp 𝕄 :=
  iprop(Φ₁ (F := F) c ∗ (dats m ρ 0 c).owesAt () t0_0.succ
    ∗ ownsAt c cc0_stg0_0 (xstg m ρ c) ∗ ownsAt c cc0_stg1_0 (wqstg m ρ c) ∗ ownsAt c cc0_stg2_0 (wkstg m ρ c) ∗ ownsAt c cc0_stg3_0 (wvstg m ρ c)
    ∗ ownsAt c cc0_stg4_0 (wostg m ρ c) ∗ ownsAt c cc0_stg5_0 (outAll m ρ c))

set_option maxHeartbeats 4000000 in
/-- The body between what the launch gives it and what it gives back. -/
theorem obligation (c : Dev nD) {Q : PUnit → sProp 𝕄} (hQ : bodyPost m ρ c ⊢ Q ⟨⟩) : bodyPre m ρ c ⊢ run c (args (k0_part25 (F := F))) Q := by
  unfold bodyPre Φ₀ start linear duties creds crs bts scr Dat.owesAt Pipeline.owesWithin
  rw [show (dats m ρ 0 c).owed t0_0.castSucc = O₀ c from rfl, cells_eq c]
  iintro ⟨⟨⟨⟨%K, #HR, ⟨Ab, ⟨⟨A00, A01⟩, ⟨A10, A11⟩⟩, ⟨⟨⟨L00, I000, I001, I002⟩, ⟨L01, I010, I011, I012⟩⟩, ⟨⟨L10, I100, I101, I102⟩, ⟨L11, I110, I111, I112⟩⟩⟩⟩, ⟨B0, B1, B2⟩, ⟨T00, T01⟩, ⟨T10, T11⟩⟩, #HL, Cb, ⟨C000, C001, C002⟩, ⟨C010, C011, C012⟩, ⟨C100, C101, C102⟩, ⟨C110, C111, C112⟩⟩, F0, F1, F2, F3⟩, ⟨%W, -, HO⟩, ⟨%d0, X⟩, ⟨%d1, W1⟩, ⟨%d2, W2⟩, ⟨%d3, W3⟩, ⟨%d4, W4⟩, ⟨%d5, Y⟩⟩
  rw [show (dats m ρ 0 c).before (0 : Fin 6) t0_0 d0 = xstg m ρ c from by unfold Dat.before; rw [if_pos (fetch0 (0 : Fin 6) (by decide) t0_0)]; rfl]
  rw [show (dats m ρ 0 c).before (1 : Fin 6) t0_0 d1 = wqstg m ρ c from by unfold Dat.before; rw [if_pos (fetch0 (1 : Fin 6) (by decide) t0_0)]; rfl]
  rw [show (dats m ρ 0 c).before (2 : Fin 6) t0_0 d2 = wkstg m ρ c from by unfold Dat.before; rw [if_pos (fetch0 (2 : Fin 6) (by decide) t0_0)]; rfl]
  rw [show (dats m ρ 0 c).before (3 : Fin 6) t0_0 d3 = wvstg m ρ c from by unfold Dat.before; rw [if_pos (fetch0 (3 : Fin 6) (by decide) t0_0)]; rfl]
  rw [show (dats m ρ 0 c).before (4 : Fin 6) t0_0 d4 = wostg m ρ c from by unfold Dat.before; rw [if_pos (fetch0 (4 : Fin 6) (by decide) t0_0)]; rfl]
  ihave #HC := (ctx_of m ρ K) $$ [HR HL]
  · isplitr; · iexact HR
    iexact HL
  ihave X := (split3 (F := F) c xM fullShare _) $$ X
  icases X with ⟨X0, X1⟩
  ihave Y := (split3 (F := F) c oM fullShare _) $$ Y
  icases Y with ⟨Y0, Y1⟩
  ihave F0 := (own_in (F := F) c cc0_scratch0) $$ F0
  icases F0 with ⟨%f0, F0⟩
  ihave F0 := (split3 (F := F) c sM fullShare f0) $$ F0
  icases F0 with ⟨S0, S1⟩
  ihave F1 := (own_in (F := F) c cc0_scratch1) $$ F1
  icases F1 with ⟨%f1, F1⟩
  ihave F1 := (split4 (F := F) c gM f1) $$ F1
  icases F1 with ⟨G0, G1⟩
  ihave G0 := (anys_around (F := F) c gM 0) $$ G0
  icases G0 with ⟨G0c, G00, G01, G02⟩
  ihave G1 := (anys_around (F := F) c gM 1) $$ G1
  icases G1 with ⟨G1c, G10, G11, G12⟩
  ihave F2 := (own_in (F := F) c cc0_scratch2) $$ F2
  icases F2 with ⟨%f2, F2⟩
  ihave F2 := (split4 (F := F) c pM f2) $$ F2
  icases F2 with ⟨P0, P1⟩
  ihave P0 := (anys_four (F := F) c pM 0) $$ P0
  ihave P1 := (anys_four (F := F) c pM 1) $$ P1
  ihave F3 := (own_in (F := F) c cc0_scratch3) $$ F3
  icases F3 with ⟨%f3, F3⟩
  ihave F3 := (split4 (F := F) c rM f3) $$ F3
  icases F3 with ⟨R0, R1⟩
  ihave R0 := (anys_around (F := F) c rM 0) $$ R0
  icases R0 with ⟨R0c, R00, R01, R02⟩
  ihave R1 := (anys_around (F := F) c rM 1) $$ R1
  icases R1 with ⟨R1c, R10, R11, R12⟩
  ihave HO := (show owes (c : Thread nD τ) (O₀ c) W ⊢ ow (F := F) c (O₀ c) from by unfold ow; iintro H; iexists W; iexact H) $$ HO
  iapply (whole (c := c) (V0 := fun j => f0 ((r3 0).emb j)) (V1 := fun j => f0 ((r3 1).emb j)) (O0 := fun j => (dats m ρ 0 c).before (5 : Fin 6) t0_0 d5 ((r3 0).emb j))
    (O1 := fun j => (dats m ρ 0 c).before (5 : Fin 6) t0_0 d5 ((r3 1).emb j)) (Q := Q) m ρ K) $$ [HO B0 G00 G10 R00 R10 B1 G01 G11 R01 R11 B2 G02 G12 R02 R12 Cb Ab X0 X1 S0 S1 T00 T01 T10 T11 C000 I000 C001 I001 C002 I002 C010 I010 C011 I011 C012 I012 C100 I100 C101 I101 C102 I102 C110 I110 C111 I111 C112 I112 A00 A01 A10 A11 L00 L01 L10 L11 W1 W2 W3 W4 G0c G1c R0c R1c P0 P1 Y0 Y1]
  · unfold pre barOut barPay waitsIn rcvW
    isplitr; · iexact HC
    isplitl [HO]; · iexact HO
    isplitl [B0 G00 G10 R00 R10 B1 G01 G11 R01 R11 B2 G02 G12 R02 R12]
    · isplitl [B0 G00 G10 R00 R10]
      · isplitl [B0]; · iexact B0
        isplitl [G00]; · iexact G00
        isplitl [G10]; · iexact G10
        isplitl [R00]; · iexact R00
        iexact R10
      isplitl [B1 G01 G11 R01 R11]
      · isplitl [B1]; · iexact B1
        isplitl [G01]; · iexact G01
        isplitl [G11]; · iexact G11
        isplitl [R01]; · iexact R01
        iexact R11
      isplitl [B2]; · iexact B2
      isplitl [G02]; · iexact G02
      isplitl [G12]; · iexact G12
      isplitl [R02]; · iexact R02
      iexact R12
    isplitl [Cb Ab]
    · isplitl [Cb]; · iexact Cb
      iexact Ab
    isplitl [X0 X1]
    · isplitl [X0]; · iexact X0
      iexact X1
    isplitl [S0 S1]
    · isplitl [S0]; · iexact S0
      iexact S1
    isplitl [T00 T01 T10 T11]
    · isplitl [T00]; · iexact T00
      isplitl [T01]; · iexact T01
      isplitl [T10]; · iexact T10
      iexact T11
    isplitl [C000 I000 C001 I001 C002 I002 C010 I010 C011 I011 C012 I012 C100 I100 C101 I101 C102 I102 C110 I110 C111 I111 C112 I112]
    · isplitl [C000 I000 C001 I001 C002 I002]
      · isplitl [C000 I000]
        · isplitl [C000]; · iexact C000
          iexact I000
        isplitl [C001 I001]
        · isplitl [C001]; · iexact C001
          iexact I001
        isplitl [C002]; · iexact C002
        iexact I002
      isplitl [C010 I010 C011 I011 C012 I012]
      · isplitl [C010 I010]
        · isplitl [C010]; · iexact C010
          iexact I010
        isplitl [C011 I011]
        · isplitl [C011]; · iexact C011
          iexact I011
        isplitl [C012]; · iexact C012
        iexact I012
      isplitl [C100 I100 C101 I101 C102 I102]
      · isplitl [C100 I100]
        · isplitl [C100]; · iexact C100
          iexact I100
        isplitl [C101 I101]
        · isplitl [C101]; · iexact C101
          iexact I101
        isplitl [C102]; · iexact C102
        iexact I102
      isplitl [C110 I110]
      · isplitl [C110]; · iexact C110
        iexact I110
      isplitl [C111 I111]
      · isplitl [C111]; · iexact C111
        iexact I111
      isplitl [C112]; · iexact C112
      iexact I112
    isplitl [A00 A01 A10 A11]
    · isplitl [A00]; · iexact A00
      isplitl [A01]; · iexact A01
      isplitl [A10]; · iexact A10
      iexact A11
    isplitl [L00 L01 L10 L11]
    · isplitl [L00]; · iexact L00
      isplitl [L01]; · iexact L01
      isplitl [L10]; · iexact L10
      iexact L11
    isplitl [W1 W2 W3 W4]
    · isplitl [W1]; · iexact W1
      isplitl [W2]; · iexact W2
      isplitl [W3]; · iexact W3
      iexact W4
    isplitl [G0c G1c]
    · isplitl [G0c]; · iexact G0c
      iexact G1c
    isplitl [R0c R1c]
    · isplitl [R0c]; · iexact R0c
      iexact R1c
    isplitl [P0 P1]
    · isplitl [P0]; · iexact P0
      iexact P1
    isplitl [Y0]; · iexact Y0
    iexact Y1
  unfold post ow
  iintro ⟨⟨%W2, HO⟩, ⟨ZB, ⟨Z00, Z01, Z10, Z11⟩, V00, V01, V10, V11⟩, ⟨X0, X1⟩, ⟨W1, W2, W3, W4⟩, ⟨Y0, Y1⟩, ⟨S0, S1⟩, HG, HP, HT⟩
  ihave X := (join3 (F := F) c xM fullShare fun b => xrow m ρ c b) $$ [X0 X1]
  · isplitl [X0] <;> iassumption
  ihave Y := (join3 (F := F) c oM fullShare (OUT m ρ c)) $$ [Y0 Y1]
  · isplitl [Y0] <;> iassumption
  ihave S := (join3 (F := F) c sM fullShare (XS m ρ c)) $$ [S0 S1]
  · isplitl [S0] <;> iassumption
  ihave G := (rows_join m ρ c) $$ HG
  ihave P := (prods_join m ρ c) $$ HP
  ihave T := (parts_join m ρ c) $$ HT
  ihave F0 := (own_out (F := F) c cc0_scratch0 _) $$ S
  ihave F1 := (own_out (F := F) c cc0_scratch1 _) $$ G
  ihave F2 := (own_out (F := F) c cc0_scratch2 _) $$ P
  ihave F3 := (own_out (F := F) c cc0_scratch3 _) $$ T
  rw [glue3_split]
  iapply hQ
  unfold bodyPost Φ₁ scr Dat.owesAt Pipeline.owesWithin
  rw [show (dats m ρ 0 c).owed t0_0.succ = 0 from rfl, cells_eq c]
  isplitl [ZB Z00 Z01 Z10 Z11 V00 V01 V10 V11 F0 F1 F2 F3]
  · isplitl [ZB Z00 Z01 Z10 Z11 V00 V01 V10 V11]
    · isplitl [ZB]; · iexact ZB
      isplitl [Z00 Z01 Z10 Z11]
      · isplitl [Z00 Z01]
        · isplitl [Z00]; · iexact Z00
          iexact Z01
        isplitl [Z10]; · iexact Z10
        iexact Z11
      isplitl [V00 V01]
      · isplitl [V00]; · iexact V00
        iexact V01
      isplitl [V10]; · iexact V10
      iexact V11
    isplitl [F0]; · iexact F0
    isplitl [F1]; · iexact F1
    isplitl [F2]; · iexact F2
    iexact F3
  isplitl [HO]
  · iexists W2
    isplitr; · ipureintro; exact fun _ _ => Or.inl trivial
    iexact HO
  isplitl [X]; · iexact X
  isplitl [W1]; · iexact W1
  isplitl [W2]; · iexact W2
  isplitl [W3]; · iexact W3
  isplitl [W4]; · iexact W4
  iexact Y

/-- A product over the six windows, written out. -/
theorem bigSep_W (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

/-- The body at the launch's buffers is its last part. -/
theorem args_body : args (cc0__body (F := F)) = (args (k0_part25 (F := F)) >>= fun _ => pure PUnit.unit) := by
  unfold args
  rw [cc0__body_eq_skeleton]
  rfl

/-- The body as the launch calls it. -/
theorem obligation_all (c : Dev nD) : bodyPre m ρ c ⊢ run c (args (cc0__body (F := F))) (fun _ => bodyPost m ρ c) := by
  rw [args_body, run_bind]
  refine obligation m ρ c (Q := fun _ => run c (pure PUnit.unit) fun _ => bodyPost m ρ c) ?_
  exact run_ret (c := c) PUnit.unit fun _ => bodyPost m ρ c

set_option maxRecDepth 4000 in
/-- The body's obligation to the launch. -/
theorem body_obligation (c : Dev nD) : BodyObligation (dats (F := F) m ρ 0 c) (defs₀ (F := F)) 𝒱₀ () Set.univ := fun t => by
  rw [fin_N0 t]
  rw [bigSep_W, bigSep_W]
  show bodyPre m ρ c ⊢ run c (args (cc0__body (F := F))) (fun _ => bodyPost m ρ c)
  exact obligation_all m ρ c

end Cert.KernelIdeal.Prot

end
-- ==== Proof.KernelIdeal.Launch.lean ====
/-
  The launch: the protocol's cells funded and allocated on all devices at once, the duties and the credit dealt, and the run of the whole program.
-/
module

public import proofs.«01_k».proof.Proof.KernelIdeal.Oblig
public import Idealize.ShloMosaic.Lib.Pipeline.Launch
public import Idealize.ShloMosaic.Lib.Pipeline.Kit
public import Idealize.ShloMosaic.Lib.Pipeline.CollectiveSegs

@[expose] public section

noncomputable section

namespace Cert.KernelIdeal.Prot

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

/-- The kernel's own semaphores are apart from the launch's. -/
theorem ownSemFacts : Pipeline.OwnSemFacts cfg0.spec osem := by decide

/-- Every window's array is held whole. -/
theorem share_eq (c : Dev nD) (w : Fin cfg0.W) : (dats m ρ 0 c).share w = fullShare := by unfold Dat.share; split <;> rfl

abbrev cellAt (ck : Dev nD × Cl) : GSem nD τ sig := cell ck.1 ck.2
/-- The cells are numbered without repetition. -/
theorem cellAt_injective : Function.Injective cellAt := by
  rintro ⟨c, k⟩ ⟨c', k'⟩ h
  exact Prod.ext (cell_inj h).1 (cell_inj h).2
def allCells : Finset (GSem nD τ sig) := Finset.univ.map ⟨cellAt, cellAt_injective⟩

/-- The duties of one payer: three barrier signals, and per transfer its send's and its landing's. -/
abbrev Tk : Type := Fin 3 ⊕ (Fin 2 × Fin 2 × Fin 3 × Fin 2)
def tokOf (cj : Dev nD × Tk) : GSem nD τ sig × ℕ × Dev nD := match cj.2 with
  | .inl o => (cell (peer cj.1 o) none, 0, cj.1)
  | .inr (p, b, o, 0) => (cell cj.1 (some (.inl (p, b, o))), 0, cj.1)
  | .inr (p, b, o, 1) => (cell (peer cj.1 o) (some (.inr (p, b, cj.1))), 0, cj.1)

/-- So are the duties' tokens. -/
theorem tokOf_injective : Function.Injective tokOf := by
  rintro ⟨c, j⟩ ⟨c', j'⟩ h
  have h1 : c = c' := by
    have := congrArg (fun x : GSem nD τ sig × ℕ × Dev nD => x.2.2) h
    rcases j with o | ⟨p, b, o, i⟩ <;> rcases j' with o' | ⟨p', b', o', i'⟩ <;>
      first | exact this | (fin_cases i <;> exact this) | (fin_cases i' <;> exact this) | (fin_cases i <;> fin_cases i' <;> exact this)
  subst h1
  have h2 := congrArg (fun x : GSem nD τ sig × ℕ × Dev nD => x.1) h
  have : j = j' := by
    rcases j with o | ⟨p, b, o, i⟩ <;> rcases j' with o' | ⟨p', b', o', i'⟩
    · rw [peer_inj c (cell_inj h2).1]
    · fin_cases i' <;> cases (cell_inj h2).2
    · fin_cases i <;> cases (cell_inj h2).2
    · fin_cases i <;> fin_cases i'
      · cases (cell_inj h2).2; rfl
      · cases (cell_inj h2).2
      · cases (cell_inj h2).2
      · obtain ⟨e1, e2⟩ := cell_inj h2
        have e3 := peer_inj c e1
        have e4 : (p, b) = (p', b') := by injection e2 with e2; injection e2 with e2; exact congrArg (fun t : Fin 2 × Fin 2 × Fin 4 => (t.1, t.2.1)) e2
        cases e4; subst e3; rfl
  rw [this]
def allToks : Finset (GSem nD τ sig × ℕ × Dev nD) := Finset.univ.map ⟨tokOf, tokOf_injective⟩

def u₀ : UU := (initOf (Pipeline.cells cfgs cellOf_inj) (Pipeline.launchToks cfgs cellOf_inj), initOf allCells allToks)

/-- What the launch element deals a device; -/
def G (c : Dev nD) : sProp 𝕄 :=
  iprop((bigSep Finset.univ fun k : Cl => roundState ER (Rd (F := F) m ρ) (cell c k) 0)
    ∗ (bigSep Finset.univ fun k : Cl => iprop(atPos ER (cell c k) 0 ∅ 0 ∗ reached ER (cell c k) 0)) ∗ duties (F := F) c)
/-- and what the allocation of the cells makes of it. -/
def G' (c : Dev nD) : sProp 𝕄 := iprop(∃ K, records (F := F) m ρ K ∗ linear (F := F) c)

/-- A device's tokens, written out. -/
theorem duties_eq (c : Dev nD) : (bigSep Finset.univ fun j : Tk => (dutyTok ER (tokOf (c, j)).1 (tokOf (c, j)).2.1 (tokOf (c, j)).2.2 : sProp 𝕄)) = duties (F := F) c := by
  unfold duties bts
  rw [bigSep_univ_sum, three, bigSep_univ_prod, two]
  simp only [bigSep_univ_prod, two, three]
  rfl

/-- The starting records give every device its part. -/
theorem fund_all : BI.own (ER (initOf allCells allToks)) ⊢ (|==> bigSep Finset.univ (G (F := F) m ρ) : sProp 𝕄) := by
  have hX (Φ : GSem nD τ sig → sProp 𝕄) : bigSep allCells Φ = bigSep Finset.univ fun c : Dev nD => bigSep Finset.univ fun k : Cl => Φ (cell c k) := by
    unfold allCells; rw [bigSep_map, bigSep_univ_prod]; rfl
  have hT : bigSep allToks (fun x => (dutyTok ER x.1 x.2.1 x.2.2 : sProp 𝕄)) = bigSep Finset.univ fun c : Dev nD => duties (F := F) c := by
    unfold allToks; rw [bigSep_map, bigSep_univ_prod]
    exact bigSep_congr fun c _ => duties_eq c
  iintro HX
  imod (Rounds.fund ER (Rd (F := F) m ρ) allCells allToks) $$ HX with ⟨Hst, Hr, Hat, Htok⟩
  imodintro
  ihave Hst' := (Entails.of_eq (hX fun g => roundState ER (Rd (F := F) m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

/-- The barrier is the one counter that the launch hands over. -/
theorem unscopedSems0_eq (c : Dev nD) : (unscopedSems0 c : sProp 𝕄) = semVal (cell c none) 0 := by
  unfold unscopedSems0; rw [bigSep_eq_bigSepL_of_eq [SemLoc.reg barS] (by decide) (by decide)]; rfl

/-- The barrier's counter and the transfers' are the cells' counters. -/
theorem sems0_eq (c : Dev nD) : (bigSep Finset.univ fun k : Cl => semVal (cell c k) 0 : sProp 𝕄)
    = iprop(unscopedSems0 c ∗ Pipeline.ownSems0 (Ix := Unit) (Name := ℕ) (U := UU) (Lvl := ℕ) (Val := Elt F) (τ := τ) osem c) := by
  have hsome : bigSep (Finset.univ.erase (none : Cl)) (fun k => (semVal (cell c k) 0 : sProp 𝕄)) = bigSep Finset.univ fun k : Dc => semVal (cell c (some k)) 0 := by
    rw [show (Finset.univ.erase (none : Cl)) = Finset.univ.map ⟨some, Option.some_injective _⟩ from by decide, bigSep_map]
    rfl
  rw [unscopedSems0_eq, bigSep_univ_at _ (none : Cl), hsome]
  rfl

/-- Every cell of a device gets its invariant. -/
theorem core_alloc (c : Dev nD) :
    iprop(Pipeline.ownSems0 (Ix := Unit) (Name := ℕ) (U := UU) (Lvl := ℕ) (Val := Elt F) (τ := τ) osem c ∗ unscopedSems0 c ∗ G (F := F) m ρ c)
      ⊢ |={Set.univ}=> iprop((bigSep Finset.univ fun k => iprop(∃ κ : ℕ, cellInv ER (Rd (F := F) m ρ) κ (cell c k)))
          ∗ (bigSep Finset.univ fun k => iprop(atPos ER (cell c k) 0 ∅ 0 ∗ reached ER (cell c k) 0)) ∗ duties (F := F) c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Cl => semVal (cell c k) 0) ∗ bigSep Finset.univ fun k : Cl => roundState ER (Rd (F := F) m ρ) (cell c k) 0)
      ⊢ (|={Set.univ}=> bigSep Finset.univ fun k => iprop(∃ κ : ℕ, cellInv ER (Rd (F := F) m ρ) κ (cell c k)) : sProp 𝕄) from by
        rw [← bigSep_sep']
        exact (bigSep_mono fun k _ => (Rounds.body_intro ER (Rd (F := F) m ρ) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-- A fact that may be used again serves every factor of a product. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The records and a device's own parts make what it starts from. -/
theorem G'_intro (K : Dev nD × Cl → ℕ) (c : Dev nD) : iprop(records (F := F) m ρ K ∗ linear (F := F) c) ⊢ G' (F := F) m ρ c := by
  unfold G'
  iintro H
  iexists K
  iexact H

/-- All devices' cells are allotted, and each device's parts gathered. -/
theorem regroup :
    (bigSep Finset.univ fun c : Dev nD => iprop((bigSep Finset.univ fun k => iprop(∃ κ : ℕ, cellInv ER (Rd (F := F) m ρ) κ (cell c k)))
          ∗ (bigSep Finset.univ fun k => iprop(atPos ER (cell c k) 0 ∅ 0 ∗ reached ER (cell c k) 0)) ∗ duties (F := F) c) : sProp 𝕄)
      ⊢ bigSep Finset.univ (G' (F := F) m ρ) := by
  rw [bigSep_sep', bigSep_sep', ← bigSep_univ_prod (fun ck : Dev nD × Cl => iprop(∃ κ : ℕ, cellInv ER (Rd (F := F) m ρ) κ (cell ck.1 ck.2))),
    bigSep_congr (s := Finset.univ) (fun (c : Dev nD) _ => bigSep_sep' Finset.univ (fun k : Cl => (atPos ER (cell c k) 0 ∅ 0 : sProp 𝕄)) (fun k => reached ER (cell c k) 0)),
    bigSep_sep', ← bigSep_univ_prod (fun ck : Dev nD × Cl => (reached ER (cell ck.1 ck.2) 0 : sProp 𝕄))]
  iintro ⟨HI, ⟨Hat, #HR⟩, Htok⟩
  ihave HK := (BI.bigSep_exists_pi Finset.univ (fun (ck : Dev nD × Cl) (κ : ℕ) => (cellInv ER (Rd (F := F) m ρ) κ (cell ck.1 ck.2) : sProp 𝕄))) $$ HI
  icases HK with ⟨%K, #HI⟩
  iapply (with_persistent (R := records (F := F) m ρ K) fun c _ => G'_intro m ρ K c)
  isplitr
  · unfold records; isplitl; · iexact HI
    iexact HR
  · iapply ((Entails.of_eq (bigSep_sep' Finset.univ (fun c : Dev nD => bigSep Finset.univ fun k : Cl => (atPos ER (cell c k) 0 ∅ 0 : sProp 𝕄)) (duties (F := F))).symm).trans
      (bigSep_mono fun c _ => show _ ⊢ linear (F := F) c from Entails.of_eq (by unfold linear; rfl)))
    isplitl [Hat]; · iexact Hat
    iexact Htok

/-- Every device's cells allocated at once. -/
theorem glob : (bigSep Finset.univ fun c => iprop(Pipeline.ownSems0 (Ix := Unit) (Name := ℕ) (U := UU) (Lvl := ℕ) (Val := Elt F) (τ := τ) osem c ∗ unscopedSems0 c ∗ G (F := F) m ρ c) : sProp 𝕄)
    ⊢ |={Set.univ}=> bigSep Finset.univ (G' (F := F) m ρ) :=
  ((bigSep_mono fun c _ => core_alloc m ρ c).trans (bigSep_fupd _ _)).trans (BI.fupd_mono (regroup m ρ))

/-! ## The launch's credit -/

/-- The device a transfer at offset `o` into `c` comes from, as one of `c`'s own peers. -/
abbrev opp (o : Fin 3) : Fin 3 := Fin.rev o
/-- The opposite offset leads back, -/
theorem peer_opp (c : Dev nD) (o : Fin 3) : peer (peer c (opp o)) o = c := by revert c o; decide
/-- either way round. -/
theorem opp_peer (c : Dev nD) (o : Fin 3) : peer (peer c o) (opp o) = c := by revert c o; decide
/-- Going to the peer at an offset permutes the devices. -/
def hopPerm (o : Fin 3) : Dev nD ≃ Dev nD := ⟨fun c => peer c (opp o), fun c => peer c o, fun c => peer_opp c o, fun c => opp_peer c o⟩

/-- A tally on a device's cell concerns that device alone. -/
theorem tally_on (d : Dev nD) (k : Cl) (n : ℕ) (g : GSem nD τ sig) (h : (tallyAt (cell d k) () n : CellTallies nD τ sig Unit) g ≠ 0) : g.1 = (d.tc : Thread nD τ) := by
  by_cases e : g = cell d k
  · rw [e]; rfl
  · exact absurd (tallyAt_ne_cell e () n) h

/-- The barrier signals of all devices, seen from the device that waits. -/
theorem cred_bar (o : Fin 3) (c : Dev nD) : (Pipeline.launchCred (fun d => tallyAt (cell (peer d o) none) () 1) c : sProp 𝕄) = cred (tallyAt (cell c none) () 1) :=
  Pipeline.launchCred_of_sum _ (fun d => tallyAt (cell d none) () 1)
    (Equiv.sum_comp (hopPerm o).symm fun d => (tallyAt (cell d none) () 1 : CellTallies nD τ sig Unit)) (fun d g h => tally_on d none 1 g h) c
/-- The landings of all devices, seen from the device that waits. -/
theorem cred_rcv (p b : Fin 2) (o : Fin 3) (c : Dev nD) :
    (Pipeline.launchCred (fun d => tallyAt (cell (peer d o) (some (.inr (p, b, d)))) () N) c : sProp 𝕄)
      = cred (tallyAt (cell c (some (.inr (p, b, peer c (opp o))))) () N) :=
  Pipeline.launchCred_of_sum _ (fun d => tallyAt (cell d (some (.inr (p, b, peer d (opp o))))) () N)
    (by
      rw [← Equiv.sum_comp (hopPerm o).symm fun d => (tallyAt (cell d (some (.inr (p, b, peer d (opp o))))) () N : CellTallies nD τ sig Unit)]
      exact Finset.sum_congr rfl fun d _ => by
        show _ = tallyAt (cell (peer d o) (some (.inr (p, b, peer (peer d o) (opp o))))) () N
        rw [opp_peer])
    (fun d g h => tally_on d _ N g h) c

/-- The launch's credits, cell by cell. -/
theorem cred_split (c : Dev nD) : (Pipeline.launchCred O₀ c : sProp 𝕄) ⊢ creds (F := F) c := by
  rw [show (O₀ : Dev nD → CellTallies nD τ sig Unit) = fun d => (((((((((((((((0
      + tallyAt (cell (peer d 2) (some (.inr (1, 1, d)))) () N) + tallyAt (cell (peer d 1) (some (.inr (1, 1, d)))) () N) + tallyAt (cell (peer d 0) (some (.inr (1, 1, d)))) () N)
      + tallyAt (cell (peer d 2) (some (.inr (1, 0, d)))) () N) + tallyAt (cell (peer d 1) (some (.inr (1, 0, d)))) () N) + tallyAt (cell (peer d 0) (some (.inr (1, 0, d)))) () N)
      + tallyAt (cell (peer d 2) (some (.inr (0, 1, d)))) () N) + tallyAt (cell (peer d 1) (some (.inr (0, 1, d)))) () N) + tallyAt (cell (peer d 0) (some (.inr (0, 1, d)))) () N)
      + tallyAt (cell (peer d 2) (some (.inr (0, 0, d)))) () N) + tallyAt (cell (peer d 1) (some (.inr (0, 0, d)))) () N) + tallyAt (cell (peer d 0) (some (.inr (0, 0, d)))) () N)
      + tallyAt (cell (peer d 2) none) () 1) + tallyAt (cell (peer d 1) none) () 1) + tallyAt (cell (peer d 0) none) () 1) from rfl]
  simp only [Pipeline.launchCred_add, Pipeline.launchCred_zero, cred_bar, cred_rcv]
  unfold creds crs
  iintro ⟨⟨⟨⟨⟨⟨⟨⟨⟨⟨⟨⟨⟨⟨⟨-, D0⟩, D1⟩, D2⟩, C0⟩, C1⟩, C2⟩, B0⟩, B1⟩, B2⟩, A0⟩, A1⟩, A2⟩, X2⟩, X1⟩, X0⟩
  isplitl [X0 X1 X2]
  · rw [show (tallyAt (cell c none) () 3 : CellTallies nD τ sig Unit) = (tallyAt (cell c none) () 1 + tallyAt (cell c none) () 1) + tallyAt (cell c none) () 1 from by
      rw [tallyAt_add, tallyAt_add]]
    iapply (cred_add _ _).2
    isplitl [X0 X1]
    · iapply (cred_add _ _).2
      isplitl [X0]; · iexact X0
      iexact X1
    iexact X2
  isplitl [A0 A1 A2]
  · isplitl [A0]; · iexact A0
    isplitl [A1]; · iexact A1
    iexact A2
  isplitl [B0 B1 B2]
  · isplitl [B0]; · iexact B0
    isplitl [B1]; · iexact B1
    iexact B2
  isplitl [C0 C1 C2]
  · isplitl [C0]; · iexact C0
    isplitl [C1]; · iexact C1
    iexact C2
  isplitl [D0]; · iexact D0
  isplitl [D1]; · iexact D1
  iexact D2

/-! ## The side conditions -/

/-- What a device starts from, out of what the launch deals. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (F := F) m ρ c)
      ⊢ |={Set.univ}=> iprop(start (F := F) m ρ c ∗ emp) := by
  iintro ⟨-, Hlev, Hcr, -, HG⟩
  ihave Hc := (cred_split (F := F) c) $$ Hcr
  imodintro
  unfold start G'
  isplitl
  · isplitl [HG]; · iexact HG
    isplitl [Hlev]; · iexact Hlev
    iexact Hc
  · iempintro

/-- The body's precondition, out of the start and the scratch buffers. -/
theorem phi0_intro (c : Dev nD) :
    iprop(start (F := F) m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs]; · iexact Hs
  iexact Hr

/-- After the body the scratch buffers and counters are handed back. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  unfold Φ₁ scr
  iintro ⟨Hs, Hr⟩
  ihave Hs' := (Entails.of_eq (sems0_eq (F := F) c)) $$ Hs
  icases Hs' with ⟨Hu, Ho⟩
  isplitl [Hu]; · iexact Hu
  isplitl [Ho]; · iexact Ho
  iexact Hr

/-- The launch's own waits are below everything that is owed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh, for any float values, from any memory with zero counters: every fair execution ends, each array as computed and every counter zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments end as they started. -/
theorem final_arg (c : Dev nD) (w : Fin cfg0.W) (h : (cfg0.win w).isOut = false) : finalA m ρ c w = m ((cfg0.win w).arr.view.loc (c : Thread nD τ)) :=
  (dats m ρ 0 c).arrAt_in w h _

end Cert.KernelIdeal.Prot

end
-- ==== Proof.Math.Spec.lean ====
/-
  The computation by entries, over the extended reals: one head's rotated projections, its attention, and the angle of the rotation, which the two programs write in two ways.
-/
module

public import Idealize.ShloMosaic.Lib.Pointwise
public import Idealize.ShloMosaic.PureOps.Ideal

@[expose] public section

noncomputable section

namespace Cert.Attn

open Idealize.ShloMosaic

/-! ## The numbers the programs print -/

/-- The word of the base is ten thousand. -/
theorem ofBits_ten_thousand : Ideal.ofBits .f32 0x461C4000#32 = ((10000 : ℝ) : EReal) := by
  simp [Ideal.ofBits, Ideal.ieee, -EReal.coe_mul]; norm_num

/-- The word of the lanes of a head is sixty-four. -/
theorem ofBits_sixty_four : Ideal.ofBits .f32 0x42800000#32 = ((64 : ℝ) : EReal) := by
  simp [Ideal.ofBits, Ideal.ieee, -EReal.coe_mul]; norm_num

/-! ## The angle -/

/-- The even lane at or before `d`, as a real number. -/
def evenOf (d : ℕ) : ℝ := ((2 * (d / 2) : ℕ) : ℝ)

/-- The angle of position `i` in lane `d` of a head: `i / 10000 ^ (e / 64)`, `e` the even lane at or before `d`. -/
def angle (i : Fin 512) (d : ℕ) : EReal := (((i.val : ℝ) * (1 / (10000 : ℝ) ^ (evenOf d / 64)) : ℝ) : EReal)

/-- A quotient of two reals, the second not zero. -/
theorem div_coe (x y : ℝ) (hy : y ≠ 0) : Ideal.div ((x : ℝ) : EReal) ((y : ℝ) : EReal) = ((x / y : ℝ) : EReal) := by
  rw [Ideal.div, if_neg (by exact_mod_cast hy), ← EReal.coe_inv, ← EReal.coe_mul, div_eq_mul_inv]

/-- The reference's frequency: one over the power. -/
theorem freq_pow (e : ℝ) :
    Ideal.div 1 (Ideal.pow ((10000 : ℝ) : EReal) (Ideal.div ((e : ℝ) : EReal) ((64 : ℝ) : EReal)))
      = ((1 / (10000 : ℝ) ^ (e / 64) : ℝ) : EReal) := by
  rw [div_coe _ _ (by norm_num)]
  show Ideal.div (((1 : ℝ)) : EReal) (((10000 : ℝ) ^ (e / 64) : ℝ) : EReal) = _
  exact div_coe _ _ (ne_of_gt (Real.rpow_pos_of_pos (by norm_num) _))

/-- The kernel's frequency: the exponential of the negated logarithm's share, the same number. -/
theorem freq_exp (e : ℝ) :
    Ideal.exp (((e : ℝ) : EReal) * Ideal.div (0 - Ideal.log ((10000 : ℝ) : EReal)) ((64 : ℝ) : EReal))
      = ((1 / (10000 : ℝ) ^ (e / 64) : ℝ) : EReal) := by
  have hlog : Ideal.log ((10000 : ℝ) : EReal) = ((Real.log 10000 : ℝ) : EReal) := by
    show (if (10000 : ℝ) ≤ 0 then (⊥ : EReal) else _) = _
    exact if_neg (by norm_num)
  have hsub : (0 : EReal) - ((Real.log 10000 : ℝ) : EReal) = ((-Real.log 10000 : ℝ) : EReal) := by
    rw [zero_sub, EReal.coe_neg]
  rw [hlog, hsub, div_coe _ _ (by norm_num), ← EReal.coe_mul]
  show ((Real.exp (e * (-Real.log 10000 / 64)) : ℝ) : EReal) = _
  congr 1
  rw [Real.rpow_def_of_pos (by norm_num), one_div, ← Real.exp_neg]
  congr 1
  ring

/-! ## One head -/

/-- A projection: rows `x` against the columns `w`. -/
def prj (x : Fin 512 → Fin 512 → EReal) (w : Fin 512 → Fin 64 → EReal) (i : Fin 512) (d : Fin 64) : EReal :=
  ∑ t : Fin 512, x i t * w t d

/-- The lane paired with `d`, its sign turned in an even lane. -/
def turned (T : Fin 512 → Fin 64 → EReal) (i : Fin 512) (d : Fin 64) : EReal :=
  if h : d.val % 2 = 0 then -(T i ⟨d.val + 1, by omega⟩) else T i ⟨d.val - 1, by omega⟩

/-- The rotation by the angle of the position. -/
def rope (T : Fin 512 → Fin 64 → EReal) (i : Fin 512) (d : Fin 64) : EReal :=
  T i d * Ideal.cos (angle i d.val) + turned T i d * Ideal.sin (angle i d.val)

/-- The scores: queries against keys, scaled. -/
def score (q k : Fin 512 → Fin 64 → EReal) (i j : Fin 512) : EReal :=
  (∑ d : Fin 64, q i d * k j d) * Ideal.ofBits .f32 0x3E000000#32

/-- The exponentials, each row less its largest score. -/
def expo (s : Fin 512 → Fin 512 → EReal) (i j : Fin 512) : EReal :=
  Ideal.exp (s i j - (Finset.univ : Finset (Fin 512)).fold max (Ideal.ofBits .f32 0xFF800000#32) fun j' => s i j')

/-- The weights: each row of the exponentials over its sum. -/
def weight (s : Fin 512 → Fin 512 → EReal) (i j : Fin 512) : EReal :=
  Ideal.div (expo s i j) (∑ j' : Fin 512, expo s i j')

/-- One head's context. -/
def attend (q k v : Fin 512 → Fin 64 → EReal) (i : Fin 512) (d : Fin 64) : EReal :=
  ∑ j : Fin 512, weight (score q k) i j * v j d

/-- One head, from the rows and the head's columns of the three weights. -/
def head (x : Fin 512 → Fin 512 → EReal) (wq wk wv : Fin 512 → Fin 64 → EReal) : Fin 512 → Fin 64 → EReal :=
  attend (rope (prj x wq)) (rope (prj x wk)) (prj x wv)

end Cert.Attn

end
-- ==== Proof.Math.Lanes.lean ====
/-
  The kernel's tables at an entry: the lane of a head, its parity, and the cosine and sine of the angle.
-/
module

public import proofs.«01_k».proof.Proof.KernelIdeal.Blocks
public import proofs.«01_k».proof.Proof.Math.Spec

@[expose] public section

noncomputable section

namespace Cert.KernelIdeal.Math

open Cert.KernelIdeal Cert.KernelIdeal.Gen Cert.KernelIdeal.Prot
open Idealize.ShloMosaic Cert.Attn

/-- A small number's word, read as a signed integer and then as a real, is the number. -/
theorem sitofp_ofNat (n : ℕ) (h : n < 2 ^ 31) :
    FloatOps.sitofp (F := Ideal) FTy.f32 (BitVec.ofNat 32 n) = (((n : ℕ) : ℝ) : EReal) := by
  show ((((BitVec.ofNat 32 n).toInt : ℤ) : ℝ) : EReal) = _
  have e : (BitVec.ofNat 32 n).toInt = (n : ℤ) := by
    rw [BitVec.toInt_eq_toNat_of_lt] <;> rw [BitVec.toNat_ofNat, Nat.mod_eq_of_lt (by omega)]
    omega
  rw [e, Int.cast_natCast]

/-- The lane within its head. -/
theorem lane64_at (i : Fin 512) (j : Fin 256) : k0_pay17 (ix2 i j) = BitVec.ofNat 32 (j.val % 64) := by
  pointwise [k0_pay17]
  clear i
  revert j
  decide +kernel

/-- Whether the lane is even. -/
theorem even_at (i : Fin 512) (j : Fin 256) : evenLane (ix2 i j) = BitVec.ofNat 1 (1 - j.val % 2) := by
  pointwise [evenLane, k0_pay24, lane64_at]
  clear i
  revert j
  decide +kernel

/-- The angle's table. -/
theorem angle_at (i : Fin 512) (j : Fin 256) :
    k0_pay21 (F := Ideal) k0_pay16 k0_pay17 (Scalar.select (Scalar.cmpi .eq 2#32 0#32) 1#32 2#32) k0_pay18 k0_pay19 k0_pay20
        (Scalar.cmpi .slt (Scalar.select (Scalar.cmpi .eq 2#32 0#32) 1#32 2#32) 0#32) (ix2 i j)
      = angle i (j.val % 64) := by
  pointwise [k0_pay21, k0_pay16, k0_pay18, k0_pay19, k0_pay20, lane64_at]
  have key : ∀ j : Fin 256, IntOp.subi (BitVec.ofNat 32 (j.val % 64))
      (Scalar.select
        (IntOp.andi
          (IntOp.xori
            (IntOp.cmpi CmpIPredicate.slt
              (IntOp.remsi ArithUnit.vector (BitVec.ofNat 32 (j.val % 64))
                (Scalar.select (Scalar.cmpi CmpIPredicate.eq 2#32 0#32) 1#32 2#32))
              0#32)
            (Scalar.cmpi CmpIPredicate.slt (Scalar.select (Scalar.cmpi CmpIPredicate.eq 2#32 0#32) 1#32 2#32) 0#32))
          (IntOp.cmpi CmpIPredicate.ne
            (IntOp.remsi ArithUnit.vector (BitVec.ofNat 32 (j.val % 64))
              (Scalar.select (Scalar.cmpi CmpIPredicate.eq 2#32 0#32) 1#32 2#32))
            0#32))
        (IntOp.addi
          (IntOp.remsi ArithUnit.vector (BitVec.ofNat 32 (j.val % 64))
            (Scalar.select (Scalar.cmpi CmpIPredicate.eq 2#32 0#32) 1#32 2#32))
          (Scalar.select (Scalar.cmpi CmpIPredicate.eq 2#32 0#32) 1#32 2#32))
        (IntOp.remsi ArithUnit.vector (BitVec.ofNat 32 (j.val % 64))
          (Scalar.select (Scalar.cmpi CmpIPredicate.eq 2#32 0#32) 1#32 2#32)))
      = BitVec.ofNat 32 (2 * (j.val % 64 / 2)) := by decide +kernel
  rw [key j, sitofp_ofNat _ (by omega), sitofp_ofNat _ (by omega)]
  show (((i.val : ℕ) : ℝ) : EReal) * Ideal.exp ((((2 * (j.val % 64 / 2) : ℕ) : ℝ) : EReal)
      * Ideal.div (0 - Ideal.log (Ideal.ofBits FTy.f32 0x461C4000#32)) (Ideal.ofBits FTy.f32 0x42800000#32)) = _
  rw [ofBits_ten_thousand, ofBits_sixty_four, freq_exp, ← EReal.coe_mul]
  rfl

/-- The cosines' table, -/
theorem cos_at (i : Fin 512) (j : Fin 256) : ropeA (F := Ideal) (ix2 i j) = Ideal.cos (angle i (j.val % 64)) :=
  congrArg Ideal.cos (angle_at i j)

/-- and the sines'. -/
theorem sin_at (i : Fin 512) (j : Fin 256) : ropeB (F := Ideal) (ix2 i j) = Ideal.sin (angle i (j.val % 64)) :=
  congrArg Ideal.sin (angle_at i j)

end Cert.KernelIdeal.Math

end
-- ==== Proof.Math.Heads.lean ====
/-
  The kernel's computation on one device at an entry: the gathered rows, the rotated queries and keys, the heads' contexts, and the partial product.
-/
module

public import proofs.«01_k».proof.Proof.Math.Lanes

@[expose] public section

noncomputable section

namespace Cert.KernelIdeal.Math

open Cert.KernelIdeal Cert.KernelIdeal.Gen Cert.KernelIdeal.Prot
open Idealize.ShloMosaic Cert.Attn

/-- The gathered rows: row `i` is row `i % 128` of block `i / 128`. -/
def rows (g : Fin 4 → FVec Ideal S1x1x128x512 .bf16) (i t : Fin 512) : EReal :=
  g ⟨i.val / 128, by omega⟩ (ix4 0 0 ⟨i.val % 128, by omega⟩ t)

/-- Head `h`'s columns of a device's 256. -/
def cols {φ : FTy} (w : FVec Ideal S512x256 φ) (h : Fin 4) (t : Fin 512) (d : Fin 64) : EReal :=
  w (ix2 t ⟨64 * h.val + d.val, by omega⟩)

/-- The four gathered blocks stacked are the gathered rows. -/
theorem rows_at (g : Fin 4 → FVec Ideal S1x1x128x512 .bf16) (i t : Fin 512) :
    k0_pay25 (F := Ideal) (g 0) (g 1) (g 2) (g 3) (ix2 i t) = rows g i t := by
  pointwise [k0_pay25]
  have key : ∀ (a b : Fin 4) (r r' : Fin 128), a = b → r = r' → g a (ix4 0 0 r t) = g b (ix4 0 0 r' t) := by
    rintro a b r r' rfl rfl; rfl
  unfold rows
  split
  · exact key _ _ _ _ (Fin.ext (by show 0 = i.val / 128; omega)) (Fin.ext (by show i.val = i.val % 128; omega))
  split
  · exact key _ _ _ _ (Fin.ext (by show 1 = i.val / 128; omega)) (Fin.ext (by show i.val - 128 = i.val % 128; omega))
  split
  · exact key _ _ _ _ (Fin.ext (by show 2 = i.val / 128; omega)) (Fin.ext (by show i.val - 128 - 128 = i.val % 128; omega))
  · exact key _ _ _ _ (Fin.ext (by show 3 = i.val / 128; omega)) (Fin.ext (by show i.val - 128 - 128 - 128 = i.val % 128; omega))

/-- A rotated product at head `h`'s lane `d`. -/
theorem rot_at (w : FVec Ideal S512x256 .bf16) (g : Fin 4 → FVec Ideal S1x1x128x512 .bf16) (h : Fin 4) (i : Fin 512) (d : Fin 64) :
    k0_pay26 (F := Ideal) w ropeA ropeB evenLane (g 0) (g 1) (g 2) (g 3) (ix2 i ⟨64 * h.val + d.val, by omega⟩)
      = rope (prj (rows g) (cols w h)) i d := by
  pointwise [k0_pay26, rows_at, cos_at, sin_at, even_at]
  have hm : (64 * h.val + d.val) % 64 = d.val := by omega
  unfold rope
  rw [hm]
  refine congrArg₂ (· + ·) rfl (congrArg₂ (· * ·) ?_ rfl)
  unfold turned
  by_cases hd : d.val % 2 = 0
  · rw [dif_pos hd, show 1 - (64 * h.val + d.val) % 2 = 1 by omega]
    rw [show BitVec.ofNat 1 1 = 1#1 from rfl]
    show (0 : EReal) - _ = _
    rw [zero_sub]
    refine congrArg Neg.neg (Finset.sum_congr rfl fun t _ => congrArg (fun z => rows g i t * w (ix2 t z)) (Fin.ext ?_))
    show (64 * h.val + d.val + 256 - 255) % 256 = 64 * h.val + (d.val + 1)
    omega
  · rw [dif_neg hd, show 1 - (64 * h.val + d.val) % 2 = 0 by omega]
    rw [show BitVec.ofNat 1 0 = 0#1 from rfl, ValueIdx.select_zero]
    refine (Finset.sum_congr rfl fun t _ => congrArg (fun z => rows g i t * w (ix2 t z)) (Fin.ext ?_))
    show (64 * h.val + d.val + 256 - 1) % 256 = 64 * h.val + (d.val - 1)
    omega

section Device
variable (wq wk wv : FVec Ideal S512x256 .f32) (wo : FVec Ideal S256x512 .f32) (g : Fin 4 → FVec Ideal S1x1x128x512 .bf16)

/-- A cast between formats leaves the numbers. -/
theorem cols_wq (h : Fin 4) : cols (k0_pay12 wq) h = cols wq h := by
  funext t d
  unfold cols
  pointwise [k0_pay12]
/-- The same of the key weights. -/
theorem cols_wk (h : Fin 4) : cols (k0_pay13 wk) h = cols wk h := by
  funext t d
  unfold cols
  pointwise [k0_pay13]

/-- The queries, -/
theorem q_at (h : Fin 4) : cols (qOf wq g) h = rope (prj (rows g) (cols wq h)) :=
  funext fun i => funext fun d => (rot_at (k0_pay12 wq) g h i d).trans (by rw [cols_wq])

/-- the keys -/
theorem k_at (h : Fin 4) : cols (kOf wk g) h = rope (prj (rows g) (cols wk h)) :=
  funext fun i => funext fun d => (rot_at (k0_pay13 wk) g h i d).trans (by rw [cols_wk])

/-- and the values, at head `h`. -/
theorem v_at (h : Fin 4) : cols (vOf wv g) h = prj (rows g) (cols wv h) := by
  funext i d
  unfold cols
  pointwise [vOf, k0_pay28, k0_pay14, rows_at]
  rfl

/-- The first head's context, -/
theorem head0_at (i : Fin 512) (d : Fin 64) :
    head0 wq wk wv g (ix2 i d) = attend (cols (qOf wq g) 0) (cols (kOf wk g) 0) (cols (vOf wv g) 0) i d := by
  pointwise [head0, k0_pay31, k0_pay29, k0_pay30]
  simp only [attend, weight, expo, score, cols, Nat.mul_zero, Nat.zero_add, Fin.val_zero]
  rfl

/-- the second's -/
theorem head1_at (q k v : FVec Ideal S512x256 .bf16) (i : Fin 512) (d : Fin 64) :
    k0_pay32 q k v (ix2 i d) = attend (cols q 1) (cols k 1) (cols v 1) i d := by
  pointwise [k0_pay32]
  rfl

/-- and the third's. -/
theorem head2_at (q k v : FVec Ideal S512x256 .bf16) (i : Fin 512) (d : Fin 64) :
    k0_pay33 q k v (ix2 i d) = attend (cols q 2) (cols k 2) (cols v 2) i d := by
  pointwise [k0_pay33]
  rfl

/-- The contexts of the four heads, side by side. -/
theorem ctx_at (wo : FVec Ideal S256x512 .bf16) (q k v : FVec Ideal S512x256 .bf16) (h0 h1 h2 : FVec Ideal S512x64 .bf16)
    (e0 : ∀ i d, h0 (ix2 i d) = attend (cols q 0) (cols k 0) (cols v 0) i d)
    (e1 : ∀ i d, h1 (ix2 i d) = attend (cols q 1) (cols k 1) (cols v 1) i d)
    (e2 : ∀ i d, h2 (ix2 i d) = attend (cols q 2) (cols k 2) (cols v 2) i d) (i c : Fin 512) :
    k0_pay34 wo q k v h0 h1 h2 (ix2 i c)
      = ∑ l : Fin 256, attend (cols q ⟨l.val / 64, by omega⟩) (cols k ⟨l.val / 64, by omega⟩) (cols v ⟨l.val / 64, by omega⟩) i
          ⟨l.val % 64, by omega⟩ * wo (ix2 l c) := by
  pointwise [k0_pay34]
  have key : ∀ (a b : Fin 4) (r r' : Fin 64), a = b → r = r' →
      attend (cols q a) (cols k a) (cols v a) i r = attend (cols q b) (cols k b) (cols v b) i r' := by
    rintro a b r r' rfl rfl; rfl
  refine Finset.sum_congr rfl fun l _ => congrArg₂ (· * ·) ?_ rfl
  split
  · exact (e0 _ _).trans (key _ _ _ _ (Fin.ext (by show 0 = l.val / 64; omega)) (Fin.ext (by show l.val = l.val % 64; omega)))
  split
  · exact (e1 _ _).trans (key _ _ _ _ (Fin.ext (by show 1 = l.val / 64; omega)) (Fin.ext (by show l.val - 64 = l.val % 64; omega)))
  split
  · exact (e2 _ _).trans (key _ _ _ _ (Fin.ext (by show 2 = l.val / 64; omega)) (Fin.ext (by show l.val - 64 - 64 = l.val % 64; omega)))
  · exact key 3 _ ⟨l.val - 64 - 64 - 64, by omega⟩ _ (Fin.ext (by show 3 = l.val / 64; omega)) (Fin.ext (by show l.val - 64 - 64 - 64 = l.val % 64; omega))

/-- The device's partial product at row `i`, column `c`: over its 256 context columns, the head of the column times the output weight. -/
def partial_ (i c : Fin 512) : EReal :=
  ∑ l : Fin 256, head (rows g) (cols wq ⟨l.val / 64, by omega⟩) (cols wk ⟨l.val / 64, by omega⟩) (cols wv ⟨l.val / 64, by omega⟩) i
    ⟨l.val % 64, by omega⟩ * wo (ix2 l c)

/-- The kernel's product of contexts and output weight is the partial product. -/
theorem prod_at (i c : Fin 512) :
    k0_pay34 (k0_pay15 wo) (qOf wq g) (kOf wk g) (vOf wv g) (head0 wq wk wv g) (head1 wq wk wv g) (head2 wq wk wv g) (ix2 i c)
      = partial_ wq wk wv wo g i c := by
  refine (ctx_at _ _ _ _ _ _ _ (head0_at wq wk wv g) (head1_at _ _ _) (head2_at _ _ _) i c).trans ?_
  simp only [q_at, k_at, v_at]
  refine Finset.sum_congr rfl fun l _ => congrArg₂ (· * ·) rfl ?_
  pointwise [k0_pay15]

/-- Row block `s` of the partial product, as it is sent. -/
theorem po_at (s : Fin 4) (r : Fin 128) (c : Fin 512) :
    poOf wq wk wv wo g s (ix4 0 0 r c) = partial_ wq wk wv wo g ⟨128 * s.val + r.val, by omega⟩ c := by
  match s with
  | 0 =>
    rw [← prod_at]
    pointwise [poOf, k0_pay35]
  | 1 =>
    rw [← prod_at]
    pointwise [poOf, k0_pay36]
  | 2 =>
    rw [← prod_at]
    pointwise [poOf, k0_pay37]
  | 3 =>
    rw [← prod_at]
    pointwise [poOf, k0_pay38, k0_pay39]

/-- A device's result: the sum of the four partial products it receives. -/
theorem out_at (p : Fin 4 → FVec Ideal S1x1x128x512 .bf16) (r : Fin 128) (c : Fin 512) :
    outOf p (ix3 0 r c) = ∑ s : Fin 4, p s (ix4 0 0 r c) := by
  pointwise [outOf, k0_pay66]
  rw [Fin.sum_univ_four]

end Device

end Cert.KernelIdeal.Math

end
-- ==== Proof.Math.Array.lean ====
/-
  What the launch leaves in the result array of a device, and what the staged arguments hold.
-/
module

public import proofs.«01_k».proof.Proof.KernelIdeal.Launch
public import proofs.«01_k».proof.Proof.Math.Heads

@[expose] public section

noncomputable section

namespace Cert.KernelIdeal.Math

open Cert.KernelIdeal Cert.KernelIdeal.Gen Cert.KernelIdeal.Prot
open Idealize.ShloMosaic Idealize.ShloMosaic.TcCoe
open Idealize.ShloMosaic.Pipeline

variable {F : FTy → Type} [FloatOps F] [∀ φ, Inhabited (F φ)]
variable (m : (ℓ : Loc nD τ sig) → Buf (Elt F) ℓ) (ρ : Dev nD → PrngReg)

/-- Through the output window, the array ends at the computed blocks. -/
theorem final_out_read (c : Dev nD) :
    (win0_5.blk (0 : Fin 1)).view.read (Elt F) (finalA m ρ c (5 : Fin 6)) = outAll m ρ c := by
  unfold finalA
  rw [show cfg0.N = ((0 : Fin 1) : Fin cfg0.N).val + 1 from rfl, (dats m ρ 0 c).arrAt_succ (5 : Fin 6) (0 : Fin 1)]
  rw [show (cfg0.win (5 : Fin 6)).flush (0 : Fin 1) = true from by decide, if_pos rfl]
  exact View.read_write_univ _ _

/-- The window is the whole array. -/
theorem final_out (c : Dev nD) : finalA m ρ c (5 : Fin 6) = outAll m ρ c := by
  have hz : (fun a => (win0_5.index (0 : Fin 1)) a * main_v1.ty.shape.size a) = fun _ => 0 :=
    funext fun a => by fin_cases a <;> decide
  exact (Memref.read_access_unit_zero (Elt F) main_v1 hz (fun a => by fin_cases a <;> decide) _).symm.trans (final_out_read m ρ c)

/-- Each staged argument is the argument. -/
theorem xstg_eq (c : Dev nD) : xstg m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-- So are the query weights, -/
theorem wqstg_eq (c : Dev nD) : wqstg m ρ c = m ((c : Thread nD τ).loc main_arg1) := by
  have hz : (fun a => (win0_1.index (0 : Fin 1)) a * main_arg1.ty.shape.size a) = fun _ => 0 :=
    funext fun a => by fin_cases a <;> decide
  exact Memref.read_access_unit_zero (Elt F) main_arg1 hz (fun a => by fin_cases a <;> decide) _

/-- the key weights, -/
theorem wkstg_eq (c : Dev nD) : wkstg m ρ c = m ((c : Thread nD τ).loc main_arg2) := by
  have hz : (fun a => (win0_2.index (0 : Fin 1)) a * main_arg2.ty.shape.size a) = fun _ => 0 :=
    funext fun a => by fin_cases a <;> decide
  exact Memref.read_access_unit_zero (Elt F) main_arg2 hz (fun a => by fin_cases a <;> decide) _

/-- the value weights, -/
theorem wvstg_eq (c : Dev nD) : wvstg m ρ c = m ((c : Thread nD τ).loc main_arg3) := by
  have hz : (fun a => (win0_3.index (0 : Fin 1)) a * main_arg3.ty.shape.size a) = fun _ => 0 :=
    funext fun a => by fin_cases a <;> decide
  exact Memref.read_access_unit_zero (Elt F) main_arg3 hz (fun a => by fin_cases a <;> decide) _

/-- and the output weights. -/
theorem wostg_eq (c : Dev nD) : wostg m ρ c = m ((c : Thread nD τ).loc main_arg4) := by
  have hz : (fun a => (win0_4.index (0 : Fin 1)) a * main_arg4.ty.shape.size a) = fun _ => 0 :=
    funext fun a => by fin_cases a <;> decide
  exact Memref.read_access_unit_zero (Elt F) main_arg4 hz (fun a => by fin_cases a <;> decide) _

end Cert.KernelIdeal.Math

end
-- ==== Proof.Math.Reference.lean ====
/-
  The reference at an entry: its operations named one by one, each read at an index, and the whole as a sum over the 1024 context columns.
-/
module

public import proofs.«01_k».proof.Proof.Gen.ReferenceIdeal.Run
public import proofs.«01_k».proof.Proof.Math.Spec

@[expose] public section

noncomputable section

namespace Cert.ReferenceIdeal.Math

open Cert.ReferenceIdeal Cert.ReferenceIdeal.Gen Cert.ReferenceIdeal.Value
open Idealize.ShloMosaic Idealize.ShloMosaic.TcCoe Idealize.ShloMosaic.StableHlo Cert.Attn

/-! ## The operations, named -/

/-- A projection, its columns split in heads. -/
def proj (x : FVec Ideal S2x512x512 .f32) (w : FVec Ideal S512x1024 .f32) : FVec Ideal S2x512x16x64 .f32 :=
  shapeCast _ (Host.dotGeneral dot_S2x512x512_S512x1024_S2x512x1024_2_0_01_1_n_n none x w) shapeCasts_S2x512x1024_S2x512x16x64

/-- The angles, one for each pair of lanes. -/
def angles : FVec Ideal S512x32 .f32 :=
  mulf (broadcastInDim S512x32 ![0, 1] bcast_S512x1_S512x32_0_1 (sitofp .f32 (broadcastInDim S512x1 ![0] bcast_S512_S512x1_0 (iotaInDim S512 32 0)))) (broadcastInDim S512x32 ![0, 1] bcast_S1x32_S512x32_0_1 (broadcastInDim S1x32 ![1] bcast_S32_S1x32_1 (Host.divf (broadcastInDim S32 ![] bcast_S_S32 (constant S_ .f32 0x3F800000#32)) (Host.powf (broadcastInDim S32 ![] bcast_S_S32 (constant S_ .f32 0x461C4000#32)) (Host.divf (sitofp .f32 (addi (broadcastInDim S32 ![] bcast_S_S32 (constantI S_ 32 0#32)) (muli (broadcastInDim S32 ![] bcast_S_S32 (constantI S_ 32 2#32)) (iotaInDim S32 32 0)))) (broadcastInDim S32 ![] bcast_S_S32 (constant S_ .f32 0x42800000#32)))))))

/-- A table of the pairs laid along the lanes of every head. -/
def spread (t : FVec Ideal S512x32 .f32) : FVec Ideal S2x512x16x64 .f32 :=
  broadcastInDim S2x512x16x64 ![0, 1, 2, 3] bcast_S1x512x1x64_S2x512x16x64_0_1_2_3 (broadcastInDim S1x512x1x64 ![1, 3] bcast_S512x64_S1x512x1x64_1_3 (shapeCast _ (broadcastInDim S512x32x2 ![0, 1] bcast_S512x32_S512x32x2_0_1 t) shapeCasts_S512x32x2_S512x64))

/-- The lanes exchanged in pairs, the first of a pair negated. -/
def swap (T : FVec Ideal S2x512x16x64 .f32) : FVec Ideal S2x512x16x64 .f32 :=
  shapeCast _ (concatenate S2x512x16x32x2 4 [⟨S2x512x16x32x1, (broadcastInDim S2x512x16x32x1 ![0, 1, 2, 3] bcast_S2x512x16x32_S2x512x16x32x1_0_1_2_3 (Host.negf (shapeCast _ (extractStridedSlice S2x512x16x32x1 ![0, 0, 0, 0, 1] (shapeCast _ T shapeCasts_S2x512x16x64_S2x512x16x32x2) slices_S2x512x16x32x2_S2x512x16x32x1_0_0_0_0_1) shapeCasts_S2x512x16x32x1_S2x512x16x32)))⟩, ⟨S2x512x16x32x1, (broadcastInDim S2x512x16x32x1 ![0, 1, 2, 3] bcast_S2x512x16x32_S2x512x16x32x1_0_1_2_3 (shapeCast _ (extractStridedSlice S2x512x16x32x1 ![0, 0, 0, 0, 0] (shapeCast _ T shapeCasts_S2x512x16x64_S2x512x16x32x2) slices_S2x512x16x32x2_S2x512x16x32x1_0_0_0_0_0) shapeCasts_S2x512x16x32x1_S2x512x16x32))⟩] concatenates_S2x512x16x32x1_S2x512x16x32x1_S2x512x16x32x2_d4) shapeCasts_S2x512x16x32x2_S2x512x16x64

/-- The rotation. -/
def rotated (T : FVec Ideal S2x512x16x64 .f32) : FVec Ideal S2x512x16x64 .f32 :=
  addf (mulf T (spread (Host.cos angles))) (mulf (swap T) (spread (Host.sin angles)))

/-- The scores. -/
def scores (Q K : FVec Ideal S2x512x16x64 .f32) : FVec Ideal S2x16x512x512 .f32 :=
  mulf (Host.dotGeneral dot_S2x512x16x64_S2x512x16x64_S2x16x512x512_3_3_1_1_02_02 none Q K) (broadcastInDim S2x16x512x512 ![] bcast_S_S2x16x512x512 (constant S_ .f32 0x3E000000#32))

/-- A value of each row laid along it. -/
def along (t : FVec Ideal S2x16x512 .f32) : FVec Ideal S2x16x512x512 .f32 :=
  broadcastInDim S2x16x512x512 ![0, 1, 2, 3] bcast_S2x16x512x1_S2x16x512x512_0_1_2_3 (broadcastInDim S2x16x512x1 ![0, 1, 2] bcast_S2x16x512_S2x16x512x1_0_1_2 t)

/-- The exponentials of the scores less each row's largest. -/
def expos (s : FVec Ideal S2x16x512x512 .f32) : FVec Ideal S2x16x512x512 .f32 :=
  Host.exp (subf s (along (Host.reduce FloatOps.maximumf s (constant S_ .f32 0xFF800000#32) reducesTo_S2x16x512x512_S2x16x512_d3 h_S_)))

/-- The weights. -/
def weights (e : FVec Ideal S2x16x512x512 .f32) : FVec Ideal S2x16x512x512 .f32 :=
  Host.divf e (along (Host.reduceAdd e (constant S_ .f32 0x00000000#32) reducesTo_S2x16x512x512_S2x16x512_d3 h_S_))

/-- The contexts. -/
def context (V : FVec Ideal S2x512x16x64 .f32) (W : FVec Ideal S2x16x512x512 .f32) : FVec Ideal S2x512x1024 .f32 :=
  shapeCast _ (transpose S2x512x16x64 [0, 3, 1, 2] (Host.dotGeneral dot_S2x512x16x64_S2x16x512x512_S2x16x64x512_1_3_3_2_02_01 none V W) transposes_S2x16x64x512_S2x512x16x64_0_3_1_2) shapeCasts_S2x512x16x64_S2x512x1024

/-- The whole reference. -/
def whole (x : FVec Ideal S2x512x512 .f32) (wq wk wv : FVec Ideal S512x1024 .f32) (wo : FVec Ideal S1024x512 .f32) : FVec Ideal S2x512x512 .f32 :=
  Host.dotGeneral dot_S2x512x1024_S1024x512_S2x512x512_2_0_01_1_n_n none (context (proj x wv) (weights (expos (scores (rotated (proj x wq)) (rotated (proj x wk)))))) wo

set_option maxRecDepth 8192 in
/-- The reference's result is the whole of these operations. -/
theorem res_eq (m : (ℓ : Loc nD τ sig) → Buf (Elt Ideal) ℓ) (c : Dev nD) :
    res_main_v80 m c = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

/-! ## Read at an entry -/

/-- One head of one batch of an array of heads. -/
def slab (T : FVec Ideal S2x512x16x64 .f32) (b : Fin 2) (h : Fin 16) (i : Fin 512) (d : Fin 64) : EReal := T (ix4 b i h d)

/-- Head `h`'s columns of a whole weight. -/
def colsW (w : FVec Ideal S512x1024 .f32) (h : Fin 16) (t : Fin 512) (d : Fin 64) : EReal :=
  w (ix2 t ⟨64 * h.val + d.val, by omega⟩)

/-- The rows of one batch. -/
def rowsW (x : FVec Ideal S2x512x512 .f32) (b : Fin 2) (i t : Fin 512) : EReal := x (ix3 b i t)

/-- A head of a projection is the projection by the head's columns. -/
theorem proj_at (x : FVec Ideal S2x512x512 .f32) (w : FVec Ideal S512x1024 .f32) (b : Fin 2) (h : Fin 16) :
    slab (proj x w) b h = prj (rowsW x b) (colsW w h) := by
  funext i d
  unfold slab
  pointwise [proj]
  refine Finset.sum_congr rfl fun t _ => congrArg (fun z => x (ix3 b i t) * w (ix2 t z)) (Fin.ext ?_)
  show h.val * 64 + d.val = 64 * h.val + d.val
  omega

/-- A small natural number, as an integer made a float, is itself. -/
theorem sitofp_ofNat (n : ℕ) (h : n < 2 ^ 31) :
    FloatOps.sitofp (F := Ideal) FTy.f32 (BitVec.ofNat 32 n) = (((n : ℕ) : ℝ) : EReal) := by
  show ((((BitVec.ofNat 32 n).toInt : ℤ) : ℝ) : EReal) = _
  have e : (BitVec.ofNat 32 n).toInt = (n : ℤ) := by
    rw [BitVec.toInt_eq_toNat_of_lt] <;> rw [BitVec.toNat_ofNat, Nat.mod_eq_of_lt (by omega)]
    omega
  rw [e, Int.cast_natCast]

/-- The angle of a pair of lanes is the angle of either lane. -/
theorem angles_at (i : Fin 512) (p : Fin 32) (d : ℕ) (hd : d / 2 = p.val) : angles (ix2 i p) = angle i d := by
  pointwise [angles]
  have key : ∀ p : Fin 32, IntOp.addi (0#32) (IntOp.muli (2#32) (BitVec.ofNat 32 p.val)) = BitVec.ofNat 32 (2 * p.val) := by decide +kernel
  rw [key p, sitofp_ofNat _ (by omega), sitofp_ofNat _ (by omega), ofBits_ten_thousand, ofBits_sixty_four, freq_pow, ← EReal.coe_mul]
  unfold angle evenOf
  rw [hd]

/-- A lane reads its pair's entry. -/
theorem spread_at (t : FVec Ideal S512x32 .f32) (b : Fin 2) (h : Fin 16) (i : Fin 512) (d : Fin 64) :
    spread t (ix4 b i h d) = t (ix2 i ⟨d.val / 2, by omega⟩) := by
  pointwise [spread]

/-- A head of the exchanged lanes is the head turned. -/
theorem swap_at (T : FVec Ideal S2x512x16x64 .f32) (b : Fin 2) (h : Fin 16) (i : Fin 512) (d : Fin 64) :
    swap T (ix4 b i h d) = turned (slab T b h) i d := by
  pointwise [swap]
  unfold turned slab
  by_cases hd : d.val % 2 = 0
  · rw [dif_pos hd, dif_pos (show d.val % 2 < 1 by omega)]
    refine congrArg (fun z => -T (ix4 b i h z)) (Fin.ext ?_)
    show d.val / 2 * 2 + 1 = d.val + 1
    omega
  · rw [dif_neg hd, dif_neg (show ¬ d.val % 2 < 1 by omega)]
    refine congrArg (fun z => T (ix4 b i h z)) (Fin.ext ?_)
    show d.val / 2 * 2 = d.val - 1
    omega

/-- A head of the rotation is the head rotated. -/
theorem rotated_at (T : FVec Ideal S2x512x16x64 .f32) (b : Fin 2) (h : Fin 16) : slab (rotated T) b h = rope (slab T b h) := by
  funext i d
  unfold slab
  pointwise [rotated, spread_at, swap_at]
  rw [angles_at i ⟨d.val / 2, by omega⟩ d.val rfl]
  rfl

/-- The scores of a head. -/
theorem scores_at (Q K : FVec Ideal S2x512x16x64 .f32) (b : Fin 2) (h : Fin 16) (i j : Fin 512) :
    scores Q K (ix4 b h i j) = score (slab Q b h) (slab K b h) i j := by
  pointwise [scores]
  rfl

/-- A laid-out value is its row's. -/
theorem along_at (t : FVec Ideal S2x16x512 .f32) (b : Fin 2) (h : Fin 16) (i j : Fin 512) :
    along t (ix4 b h i j) = t (ix3 b h i) := by
  pointwise [along]

/-- The exponentials of a head. -/
theorem expos_at (s : FVec Ideal S2x16x512x512 .f32) (b : Fin 2) (h : Fin 16) (i j : Fin 512) :
    expos s (ix4 b h i j) = expo (fun i j => s (ix4 b h i j)) i j := by
  pointwise [expos, along_at]
  rfl

/-- A weight is an exponential over its row's sum. -/
theorem weights_at (e : FVec Ideal S2x16x512x512 .f32) (b : Fin 2) (h : Fin 16) (i j : Fin 512) :
    weights e (ix4 b h i j) = Ideal.div (e (ix4 b h i j)) (∑ j' : Fin 512, e (ix4 b h i j')) := by
  pointwise [weights, along_at]

/-- A context column is its head's weighted sum of values. -/
theorem context_at (V : FVec Ideal S2x512x16x64 .f32) (W : FVec Ideal S2x16x512x512 .f32) (b : Fin 2) (i : Fin 512) (l : Fin 1024) :
    context V W (ix3 b i l) = ∑ j : Fin 512, W (ix4 b ⟨l.val / 64, by omega⟩ i j) * slab V b ⟨l.val / 64, by omega⟩ j ⟨l.val % 64, by omega⟩ := by
  pointwise [context]
  exact Finset.sum_congr rfl fun j _ => mul_comm _ _

/-- The whole reference at an entry. -/
theorem whole_at (x : FVec Ideal S2x512x512 .f32) (wq wk wv : FVec Ideal S512x1024 .f32) (wo : FVec Ideal S1024x512 .f32)
    (b : Fin 2) (i c : Fin 512) :
    whole x wq wk wv wo (ix3 b i c)
      = ∑ l : Fin 1024, head (rowsW x b) (colsW wq ⟨l.val / 64, by omega⟩) (colsW wk ⟨l.val / 64, by omega⟩)
          (colsW wv ⟨l.val / 64, by omega⟩) i ⟨l.val % 64, by omega⟩ * wo (ix2 l c) := by
  pointwise [whole]
  refine Finset.sum_congr rfl fun l _ => congrArg₂ (· * ·) ?_ rfl
  rw [context_at, proj_at]
  refine Finset.sum_congr rfl fun j _ => congrArg₂ (· * ·) ?_ rfl
  simp only [weights_at, expos_at, scores_at, rotated_at, proj_at]
  rfl

end Cert.ReferenceIdeal.Math

end
-- ==== Proof.Math.Equation.lean ====
/-
  The equation: each device's result is its block of rows of the reference's result.
-/
module

public import proofs.«01_k».proof.Proof.Math.Array
public import proofs.«01_k».proof.Proof.Math.Reference

@[expose] public section

noncomputable section

namespace Cert.KernelIdeal.Math

open Cert.KernelIdeal Cert.KernelIdeal.Gen
open Cert.KernelIdeal.Prot hiding ix3 ix4
open Idealize.ShloMosaic Idealize.ShloMosaic.TcCoe Cert.Attn
open Cert.ReferenceIdeal.Math (whole whole_at rowsW colsW)

variable (m : (ℓ : Loc nD τ sig) → Buf (Elt Ideal) ℓ) (ρ : Dev nD → PrngReg)

/-- The gathered input at an entry: a row of the device that holds it. -/
theorem XF_at (b : Fin 2) (s : Fin 4) (r : Fin 128) (t : Fin 512) :
    XF m ρ b s (ix4 0 0 r t) = m ((s : Thread nD τ).loc main_arg0) (ix3 b r t) := by
  have e : XF m ρ b s (ix4 0 0 r t) = (fun j => xstg m ρ s ((r3 b).emb j)) (ix3 0 r t) := by
    pointwise [XF, XS, xsOf, k0_pay1, k0_pay4]
  rw [e, xstg_eq]
  refine congrArg (m ((s : Thread nD τ).loc main_arg0)) ((r3_emb b _).trans ?_)
  funext a
  match a with | ⟨0, _⟩ => rfl | ⟨1, _⟩ => rfl | ⟨2, _⟩ => rfl

/-- A device's result at an entry: the four devices' partial products at its row. -/
theorem outAll_at (c : Fin 4) (b : Fin 2) (r : Fin 128) (t : Fin 512) :
    outAll m ρ c (ix3 b r t)
      = ∑ s : Fin 4, partial_ (m (((s : Dev nD) : Thread nD τ).loc main_arg1)) (m (((s : Dev nD) : Thread nD τ).loc main_arg2))
          (m (((s : Dev nD) : Thread nD τ).loc main_arg3)) (m (((s : Dev nD) : Thread nD τ).loc main_arg4)) (XF m ρ b)
          ⟨128 * c.val + r.val, by omega⟩ t := by
  have e : outAll m ρ c (ix3 b r t) = outOf (RB m ρ c b) (ix3 0 r t) := by
    show outOf (RB m ρ c b) (in3 r t) = _
    refine congrArg (outOf (RB m ρ c b)) ?_
    funext a
    match a with | ⟨0, _⟩ => rfl | ⟨1, _⟩ => rfl | ⟨2, _⟩ => rfl
  rw [e, out_at]
  refine Finset.sum_congr rfl fun s _ => ?_
  unfold RB PO
  rw [po_at, wqstg_eq, wkstg_eq, wvstg_eq, wostg_eq]

/-- Each device's result is its rows of the reference's. -/
theorem result_eq (x : FVec Ideal Cert.ReferenceIdeal.S2x512x512 .f32) (wq wk wv : FVec Ideal Cert.ReferenceIdeal.S512x1024 .f32)
    (wo : FVec Ideal Cert.ReferenceIdeal.S1024x512 .f32)
    (hx : ∀ (c : Dev nD) b (r : Fin 128) t, m ((c : Thread nD τ).loc main_arg0) (ix3 b r t) = x (ix3 b ⟨128 * c.val + r.val, by have := c.isLt; change c.val < 4 at this; omega⟩ t))
    (hq : ∀ (c : Dev nD) (t : Fin 512) (d : Fin 256), m ((c : Thread nD τ).loc main_arg1) (ix2 t d) = wq (ix2 t ⟨256 * c.val + d.val, by have := c.isLt; change c.val < 4 at this; omega⟩))
    (hk : ∀ (c : Dev nD) (t : Fin 512) (d : Fin 256), m ((c : Thread nD τ).loc main_arg2) (ix2 t d) = wk (ix2 t ⟨256 * c.val + d.val, by have := c.isLt; change c.val < 4 at this; omega⟩))
    (hv : ∀ (c : Dev nD) (t : Fin 512) (d : Fin 256), m ((c : Thread nD τ).loc main_arg3) (ix2 t d) = wv (ix2 t ⟨256 * c.val + d.val, by have := c.isLt; change c.val < 4 at this; omega⟩))
    (ho : ∀ (c : Dev nD) (l : Fin 256) (t : Fin 512), m ((c : Thread nD τ).loc main_arg4) (ix2 l t) = wo (ix2 ⟨256 * c.val + l.val, by have := c.isLt; change c.val < 4 at this; omega⟩ t))
    (c : Fin 4) (b : Fin 2) (r : Fin 128) (t : Fin 512) :
    outAll m ρ c (ix3 b r t) = whole x wq wk wv wo (ix3 b ⟨128 * c.val + r.val, by omega⟩ t) := by
  rw [outAll_at, whole_at]
  refine Eq.trans ?_ (Fin.sum_univ_tiles (N := 1024) 4 256 (by decide) _).symm
  refine Finset.sum_congr rfl fun s _ => Finset.sum_congr rfl fun l _ => ?_
  have hrows : rows (XF m ρ b) = rowsW x b := by
    funext i t
    unfold rows rowsW
    rw [XF_at, hx]
    refine congrArg (fun z => x (ix3 b z t)) (Fin.ext ?_)
    show 128 * (i.val / 128) + i.val % 128 = i.val
    omega
  have hcols : ∀ (w : FVec Ideal S512x256 .f32) (W : FVec Ideal Cert.ReferenceIdeal.S512x1024 .f32),
      (∀ (t : Fin 512) (d : Fin 256), w (ix2 t d) = W (ix2 t ⟨256 * s.val + d.val, by omega⟩)) →
      cols w ⟨l.val / 64, by omega⟩ = colsW W ⟨(s.val * 256 + l.val) / 64, by omega⟩ := by
    intro w W h
    funext t d
    unfold cols colsW
    rw [h]
    refine congrArg (fun z => W (ix2 t z)) (Fin.ext ?_)
    show 256 * s.val + (64 * (l.val / 64) + d.val) = 64 * ((s.val * 256 + l.val) / 64) + d.val
    omega
  have hl : (⟨l.val % 64, by omega⟩ : Fin 64) = ⟨(s.val * 256 + l.val) % 64, by omega⟩ := Fin.ext (by show l.val % 64 = (s.val * 256 + l.val) % 64; omega)
  rw [hrows, hcols _ wq (hq s), hcols _ wk (hk s), hcols _ wv (hv s), hl, ho s]
  refine congrArg (fun z => _ * wo (ix2 z t)) (Fin.ext ?_)
  show 256 * s.val + l.val = s.val * 256 + l.val
  omega

/-- The same as blocks: from blocks of the arguments, the block of the reference's result. -/
theorem result_block (x : FVec Ideal Cert.ReferenceIdeal.S2x512x512 .f32) (wq wk wv : FVec Ideal Cert.ReferenceIdeal.S512x1024 .f32)
    (wo : FVec Ideal Cert.ReferenceIdeal.S1024x512 .f32)
    (hx : ∀ c : Dev nD, m ((c.tc : Thread nD τ).loc main_arg0) = Layout.block ⟨3, ![2, 128, 512]⟩ ⟨3, ![2, 512, 512]⟩ 1 4 c x)
    (hq : ∀ c : Dev nD, m ((c.tc : Thread nD τ).loc main_arg1) = Layout.block ⟨2, ![512, 256]⟩ ⟨2, ![512, 1024]⟩ 1 4 c wq)
    (hk : ∀ c : Dev nD, m ((c.tc : Thread nD τ).loc main_arg2) = Layout.block ⟨2, ![512, 256]⟩ ⟨2, ![512, 1024]⟩ 1 4 c wk)
    (hv : ∀ c : Dev nD, m ((c.tc : Thread nD τ).loc main_arg3) = Layout.block ⟨2, ![512, 256]⟩ ⟨2, ![512, 1024]⟩ 1 4 c wv)
    (ho : ∀ c : Dev nD, m ((c.tc : Thread nD τ).loc main_arg4) = Layout.block ⟨2, ![256, 512]⟩ ⟨2, ![1024, 512]⟩ 0 4 c wo)
    (c : Dev nD) :
    outAll m ρ c = Layout.block ⟨3, ![2, 128, 512]⟩ ⟨3, ![2, 512, 512]⟩ 1 4 c (whole x wq wk wv wo) := by
  have hW : ∀ (w : S512x256.Idx → EReal) (W : FVec Ideal Cert.ReferenceIdeal.S512x1024 .f32) (c : Fin 4),
      w = Layout.block ⟨2, ![512, 256]⟩ ⟨2, ![512, 1024]⟩ 1 4 c W →
      ∀ (t : Fin 512) (d : Fin 256), w (ix2 t d) = W (ix2 t ⟨256 * c.val + d.val, by omega⟩) := by
    rintro w W c rfl t d
    rw [Layout.block_apply]
    refine congrArg W (funext fun a => ?_)
    match a with
    | ⟨0, _⟩ => rfl
    | ⟨1, _⟩ => exact Fin.ext (by show c.val * 256 + d.val = 256 * c.val + d.val; omega)
  have hX : ∀ (w : S2x128x512.Idx → EReal) (W : FVec Ideal Cert.ReferenceIdeal.S2x512x512 .f32) (c : Fin 4),
      w = Layout.block ⟨3, ![2, 128, 512]⟩ ⟨3, ![2, 512, 512]⟩ 1 4 c W →
      ∀ (b : Fin 2) (r : Fin 128) (t : Fin 512), w (ix3 b r t) = W (ix3 b ⟨128 * c.val + r.val, by omega⟩ t) := by
    rintro w W c rfl b r t
    rw [Layout.block_apply]
    refine congrArg W (funext fun a => ?_)
    match a with
    | ⟨0, _⟩ => rfl
    | ⟨1, _⟩ => exact Fin.ext (by show c.val * 128 + r.val = 128 * c.val + r.val; omega)
    | ⟨2, _⟩ => rfl
  have hO : ∀ (w : S256x512.Idx → EReal) (W : FVec Ideal Cert.ReferenceIdeal.S1024x512 .f32) (c : Fin 4),
      w = Layout.block ⟨2, ![256, 512]⟩ ⟨2, ![1024, 512]⟩ 0 4 c W →
      ∀ (l : Fin 256) (t : Fin 512), w (ix2 l t) = W (ix2 ⟨256 * c.val + l.val, by omega⟩ t) := by
    rintro w W c rfl l t
    rw [Layout.block_apply]
    refine congrArg W (funext fun a => ?_)
    match a with
    | ⟨0, _⟩ => exact Fin.ext (by show c.val * 256 + l.val = 256 * c.val + l.val; omega)
    | ⟨1, _⟩ => rfl
  funext i
  have hi : i = ix3 (i 0) (i 1) (i 2) := by
    funext a
    match a with | ⟨0, _⟩ => rfl | ⟨1, _⟩ => rfl | ⟨2, _⟩ => rfl
  rw [hi]
  exact (result_eq m ρ x wq wk wv wo (fun c => hX _ x c (hx c)) (fun c => hW _ wq c (hq c)) (fun c => hW _ wk c (hk c)) (fun c => hW _ wv c (hv c))
    (fun c => hO _ wo c (ho c)) c (i 0) (i 1) (i 2)).trans (hX _ (whole x wq wk wv wo) c rfl (i 0) (i 1) (i 2)).symm

end Cert.KernelIdeal.Math

end
-- ==== Proof.lean ====
module

public import proofs.«01_k».proof.Defs
public import proofs.«01_k».proof.Proof.Kernel.Launch
public import proofs.«01_k».proof.Proof.KernelIdeal.Launch
public import proofs.«01_k».proof.Proof.Math.Equation
public import Idealize.ShloMosaic.Adequacy
public import Idealize.ShloMosaic.Init

@[expose] public section

noncomputable section

namespace Cert.Proof

open Idealize.ShloMosaic Idealize.SL.Sem

/-- The kernel's run ends with the arguments as they were and every counter at zero: its run at bit patterns. -/
theorem frame_kernel : Cert.quiescent_Kernel := fun m ρ _ =>
  (θ_run Cert.Kernel.defs _ _).mono (fun _ h => ⟨fun c =>
      ⟨(h.1 c 0).trans (Cert.Kernel.Prot.final_arg m ρ c 0 rfl), (h.1 c 1).trans (Cert.Kernel.Prot.final_arg m ρ c 1 rfl),
        (h.1 c 2).trans (Cert.Kernel.Prot.final_arg m ρ c 2 rfl), (h.1 c 3).trans (Cert.Kernel.Prot.final_arg m ρ c 3 rfl),
        (h.1 c 4).trans (Cert.Kernel.Prot.final_arg m ρ c 4 rfl)⟩, h.2⟩)
    (Cert.Kernel.Prot.run_main (F := Bits) m ρ)

/-- The same of the kernel read over the reals. -/
theorem frame_ideal : Cert.quiescent_KernelIdeal := fun m ρ _ =>
  (θ_run Cert.KernelIdeal.defs _ _).mono (fun _ h => ⟨fun c =>
      ⟨(h.1 c 0).trans (Cert.KernelIdeal.Prot.final_arg m ρ c 0 rfl), (h.1 c 1).trans (Cert.KernelIdeal.Prot.final_arg m ρ c 1 rfl),
        (h.1 c 2).trans (Cert.KernelIdeal.Prot.final_arg m ρ c 2 rfl), (h.1 c 3).trans (Cert.KernelIdeal.Prot.final_arg m ρ c 3 rfl),
        (h.1 c 4).trans (Cert.KernelIdeal.Prot.final_arg m ρ c 4 rfl)⟩, h.2⟩)
    (Cert.KernelIdeal.Prot.run_main (F := Ideal) m ρ)

/-- The reference is host code that declares no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The kernel over the reals computes the reference: from blocks of the reference's arguments, each device ends with its block of the
    reference's result, and every argument is as it was. -/
theorem algebraic : Cert.algebraic_KernelIdeal_ReferenceIdeal := by
  intro m g m' g' _ hagree
  refine ⟨Cert.ReferenceIdeal.Value.res_main_v80 m' 0, ?_, ?_⟩
  · refine (θ_run Cert.KernelIdeal.defs _ _).mono (fun _ h c =>
      ⟨(h.1 c 5).trans ?_, (h.1 c 0).trans (Cert.KernelIdeal.Prot.final_arg m g c 0 rfl), (h.1 c 1).trans (Cert.KernelIdeal.Prot.final_arg m g c 1 rfl),
        (h.1 c 2).trans (Cert.KernelIdeal.Prot.final_arg m g c 2 rfl), (h.1 c 3).trans (Cert.KernelIdeal.Prot.final_arg m g c 3 rfl),
        (h.1 c 4).trans (Cert.KernelIdeal.Prot.final_arg m g c 4 rfl)⟩)
      (Cert.KernelIdeal.Prot.run_main (F := Ideal) m g)
    rw [Cert.KernelIdeal.Math.final_out]
    exact Cert.KernelIdeal.Math.result_block m g _ _ _ _ _ (fun c => (hagree c).1) (fun c => (hagree c).2.1) (fun c => (hagree c).2.2.1)
      (fun c => (hagree c).2.2.2.1) (fun c => (hagree c).2.2.2.2) c
  · exact (θ_run Cert.ReferenceIdeal.defs _ _).mono (fun _ h => h 0) (Cert.ReferenceIdeal.Value.run (F := Ideal) m' g')

/-- Every claim of the certificate. -/
theorem claim : Cert.Claim :=
  ⟨Cert.Kernel.Gen.facts, Cert.KernelIdeal.Gen.facts, Cert.ReferenceIdeal.Gen.facts, frame_kernel, frame_ideal, frame_reference, trivial, algebraic⟩

end Cert.Proof

end
